-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8x512x512 : Shape := ⟨3, ![8, 512, 512]⟩
abbrev S8x5x768x768 : Shape := ⟨4, ![8, 5, 768, 768]⟩
abbrev S5x512 : Shape := ⟨2, ![5, 512]⟩
abbrev S5 : Shape := ⟨1, ![5]⟩
abbrev S8x512x4 : Shape := ⟨3, ![8, 512, 4]⟩
abbrev S8x512 : Shape := ⟨2, ![8, 512]⟩
abbrev S8x512x1 : Shape := ⟨3, ![8, 512, 1]⟩
abbrev S_ : Shape := ⟨0, ![]⟩

class Facts : Prop where
  slices_S8x512x4_S8x512x1_0_0_0 : S8x512x4.Slices ![0, 0, 0] S8x512x1
  shapeCasts_S8x512x1_S8x512 : S8x512x1.ShapeCasts S8x512
  slices_S8x512x4_S8x512x1_0_0_1 : S8x512x4.Slices ![0, 0, 1] S8x512x1
  slices_S8x512x4_S8x512x1_0_0_2 : S8x512x4.Slices ![0, 0, 2] S8x512x1
  slices_S8x512x4_S8x512x1_0_0_3 : S8x512x4.Slices ![0, 0, 3] S8x512x1
  bcast_S_S8x512 : S_.BroadcastsInDim S8x512 (![] : Fin 0 → Fin S8x512.rank)
  bcast_S_S8x512x512 : S_.BroadcastsInDim S8x512x512 (![] : Fin 0 → Fin S8x512x512.rank)
  reducesTo_S8x512x512_S8x512_d2 : S8x512x512.ReducesTo [2] S8x512
  h_S_ : 0 < S_.numel
  bcast_S_S5x512 : S_.BroadcastsInDim S5x512 (![] : Fin 0 → Fin S5x512.rank)
  reducesTo_S5x512_S_d0_1 : S5x512.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_v28 : IVec S8x512 1) (main_v37 : IVec S8x512 1) (main_v42 : IVec S8x512 1) (main_v46 : IVec S8x512 1) (main_v50 : IVec S_ 1) (main_v54 : IVec S_ 1) : IVec S8x512 1 :=
  let main_v55 : IVec S_ 1 := andi main_v50 main_v54
  let main_v56 : IVec S8x512 1 := andi main_v28 main_v37
  let main_v57 : IVec S8x512 1 := andi main_v56 main_v42
  let main_v58 : IVec S8x512 1 := andi main_v57 main_v46
  let main_v59 : IVec S8x512 1 := broadcastInDim S8x512 ![] bcast_S_S8x512 main_v55
  let main_v60 : IVec S8x512 1 := andi main_v58 main_v59
  main_v60

def fn_part2 {F : FTy → Type} [FloatOps F] (main_arg0 : FVec F S8x512x512 .f32) (main_arg2 : FVec F S5x512 .f32) (main_arg3 : FVec F S5 .f32) (main_arg5 : IVec S8x512 32) (main_v28 : IVec S8x512 1) (main_v37 : IVec S8x512 1) (main_c_8 : IVec S_ 32) : IVec S8x512 1 :=
  let main_v38 : IVec S8x512 32 := broadcastInDim S8x512 ![] bcast_S_S8x512 main_c_8
  let main_v39 : IVec S8x512 1 := cmpi .eq main_arg5 main_v38
  let main_c_9 : IVec S_ 32 := constantI S_ 32 1#32
  let main_v40 : IVec S8x512 32 := broadcastInDim S8x512 ![] bcast_S_S8x512 main_c_9
  let main_v41 : IVec S8x512 1 := cmpi .eq main_arg5 main_v40
  let main_v42 : IVec S8x512 1 := ori main_v39 main_v41
  let main_v43 : FVec F S8x512x512 .f32 := Host.absf main_arg0
  let main_cst : FVec F S_ .f32 := constant S_ .f32 0x7F800000#32
  let main_v44 : FVec F S8x512x512 .f32 := broadcastInDim S8x512x512 ![] bcast_S_S8x512x512 main_cst
  let main_v45 : IVec S8x512x512 1 := cmpf .olt main_v43 main_v44
  let main_c_10 : IVec S_ 1 := constantI S_ 1 1#1
  let main_v46 : IVec S8x512 1 := (fun x v => Host.reduce IntOp.andi x v reducesTo_S8x512x512_S8x512_d2 h_S_) main_v45 main_c_10
  let main_v47 : FVec F S5x512 .f32 := Host.absf main_arg2
  let main_cst_11 : FVec F S_ .f32 := constant S_ .f32 0x7F800000#32
  let main_v48 : FVec F S5x512 .f32 := broadcastInDim S5x512 ![] bcast_S_S5x512 main_cst_11
  let main_v49 : IVec S5x512 1 := cmpf .olt main_v47 main_v48
  let main_c_12 : IVec S_ 1 := constantI S_ 1 1#1
  let main_v50 : IVec S_ 1 := (fun x v => Host.reduce IntOp.andi x v reducesTo_S5x512_S_d0_1 h_S_) main_v49 main_c_12
  let main_v51 : FVec F S5 .f32 := Host.absf main_arg3
  let main_cst_13 : FVec F S_ .f32 := constant S_ .f32 0x7F800000#32
  let main_v52 : FVec F S5 .f32 := broadcastInDim S5 ![] bcast_S_S5 main_cst_13
  let main_v53 : IVec S5 1 := cmpf .olt main_v51 main_v52
  let main_c_14 : IVec S_ 1 := constantI S_ 1 1#1
  let main_v54 : IVec S_ 1 := (fun x v => Host.reduce IntOp.andi x v reducesTo_S5_S_d0 h_S_) main_v53 main_c_14
  fn_part3 (F := F) main_v28 main_v37 main_v42 main_v46 main_v50 main_v54

def fn_part1 {F : FTy → Type} [FloatOps F] (main_arg0 : FVec F S8x512x512 .f32) (main_arg2 : FVec F S5x512 .f32) (main_arg3 : FVec F S5 .f32) (main_arg5 : IVec S8x512 32) (main_v1 : IVec S8x512 32) (main_v3 : IVec S8x512 32) (main_v5 : IVec S8x512 32) (main_v7 : IVec S8x512 32) (main_v17 : IVec S8x512 1) (main_v19 : IVec S8x512 1) : IVec S8x512 1 :=
  let main_v20 : IVec S8x512 1 := andi main_v17 main_v19
  let main_v21 : IVec S8x512 1 := cmpi .sle main_v3 main_v7
  let main_v22 : IVec S8x512 1 := andi main_v20 main_v21
  let main_c_3 : IVec S_ 32 := constantI S_ 32 768#32
  let main_v23 : IVec S8x512 32 := broadcastInDim S8x512 ![] bcast_S_S8x512 main_c_3
  let main_v24 : IVec S8x512 1 := cmpi .slt main_v3 main_v23
  let main_v25 : IVec S8x512 1 := andi main_v22 main_v24
  let main_c_4 : IVec S_ 32 := constantI S_ 32 768#32
  let main_v26 : IVec S8x512 32 := broadcastInDim S8x512 ![] bcast_S_S8x512 main_c_4
  let main_v27 : IVec S8x512 1 := cmpi .sle main_v7 main_v26
  let main_v28 : IVec S8x512 1 := andi main_v25 main_v27
  let main_v29 : IVec S8x512 32 := subi main_v5 main_v1
  let main_c_5 : IVec S_ 32 := constantI S_ 32 1#32
  let main_v30 : IVec S8x512 32 := broadcastInDim S8x512 ![] bcast_S_S8x512 main_c_5
  let main_v31 : IVec S8x512 32 := maxsi main_v29 main_v30
  let main_v32 : IVec S8x512 32 := subi main_v7 main_v3
  let main_c_6 : IVec S_ 32 := constantI S_ 32 1#32
  let main_v33 : IVec S8x512 32 := broadcastInDim S8x512 ![] bcast_S_S8x512 main_c_6
  let main_v34 : IVec S8x512 32 := maxsi main_v32 main_v33
  let main_v35 : IVec S8x512 32 := muli main_v31 main_v34
  let main_c_7 : IVec S_ 32 := constantI S_ 32 4096#32
  let main_v36 : IVec S8x512 32 := broadcastInDim S8x512 ![] bcast_S_S8x512 main_c_7
  let main_v37 : IVec S8x512 1 := cmpi .slt main_v35 main_v36
  let main_c_8 : IVec S_ 32 := constantI S_ 32 0#32
  fn_part2 (F := F) main_arg0 main_arg2 main_arg3 main_arg5 main_v28 main_v37 main_c_8

def fn {F : FTy → Type} [FloatOps F] (main_arg0 : FVec F S8x512x512 .f32) (main_arg1 : FVec F S8x5x768x768 .f32) (main_arg2 : FVec F S5x512 .f32) (main_arg3 : FVec F S5 .f32) (main_arg4 : IVec S8x512x4 32) (main_arg5 : IVec S8x512 32) : IVec S8x512 1 :=
  let main_v0 : IVec S8x512x1 32 := (extractStridedSlice S8x512x1 ![0, 0, 0] · slices_S8x512x4_S8x512x1_0_0_0) main_arg4
  let main_v1 : IVec S8x512 32 := shapeCast S8x512 main_v0 shapeCasts_S8x512x1_S8x512
  let main_v2 : IVec S8x512x1 32 := (extractStridedSlice S8x512x1 ![0, 0, 1] · slices_S8x512x4_S8x512x1_0_0_1) main_arg4
  let main_v3 : IVec S8x512 32 := shapeCast S8x512 main_v2 shapeCasts_S8x512x1_S8x512
  let main_v4 : IVec S8x512x1 32 := (extractStridedSlice S8x512x1 ![0, 0, 2] · slices_S8x512x4_S8x512x1_0_0_2) main_arg4
  let main_v5 : IVec S8x512 32 := shapeCast S8x512 main_v4 shapeCasts_S8x512x1_S8x512
  let main_v6 : IVec S8x512x1 32 := (extractStridedSlice S8x512x1 ![0, 0, 3] · slices_S8x512x4_S8x512x1_0_0_3) main_arg4
  let main_v7 : IVec S8x512 32 := shapeCast S8x512 main_v6 shapeCasts_S8x512x1_S8x512
  let main_c : IVec S_ 32 := constantI S_ 32 0#32
  let main_v8 : IVec S8x512 32 := broadcastInDim S8x512 ![] bcast_S_S8x512 main_c
  let main_v9 : IVec S8x512 1 := cmpi .sge main_v1 main_v8
  let main_v10 : IVec S8x512 1 := cmpi .sle main_v1 main_v5
  let main_v11 : IVec S8x512 1 := andi main_v9 main_v10
  let main_c_0 : IVec S_ 32 := constantI S_ 32 768#32
  let main_v12 : IVec S8x512 32 := broadcastInDim S8x512 ![] bcast_S_S8x512 main_c_0
  let main_v13 : IVec S8x512 1 := cmpi .slt main_v1 main_v12
  let main_v14 : IVec S8x512 1 := andi main_v11 main_v13
  let main_c_1 : IVec S_ 32 := constantI S_ 32 768#32
  let main_v15 : IVec S8x512 32 := broadcastInDim S8x512 ![] bcast_S_S8x512 main_c_1
  let main_v16 : IVec S8x512 1 := cmpi .sle main_v5 main_v15
  let main_v17 : IVec S8x512 1 := andi main_v14 main_v16
  let main_c_2 : IVec S_ 32 := constantI S_ 32 0#32
  let main_v18 : IVec S8x512 32 := broadcastInDim S8x512 ![] bcast_S_S8x512 main_c_2
  let main_v19 : IVec S8x512 1 := cmpi .sge main_v3 main_v18
  fn_part1 (F := F) main_arg0 main_arg2 main_arg3 main_arg5 main_v1 main_v3 main_v5 main_v7 main_v17 main_v19
-- ==== Kernel.lean ====
abbrev S8x512x512 : Shape := ⟨3, ![8, 512, 512]⟩
abbrev S8x5x768x768 : Shape := ⟨4, ![8, 5, 768, 768]⟩
abbrev S5x512 : Shape := ⟨2, ![5, 512]⟩
abbrev S5 : Shape := ⟨1, ![5]⟩
abbrev S8x512x4 : Shape := ⟨3, ![8, 512, 4]⟩
abbrev S8x512 : Shape := ⟨2, ![8, 512]⟩
abbrev S1x1x1 : Shape := ⟨3, ![1, 1, 1]⟩
abbrev S1x5x768x768 : Shape := ⟨4, ![1, 5, 768, 768]⟩
abbrev S1x512x512 : Shape := ⟨3, ![1, 512, 512]⟩
abbrev S1x512x4 : Shape := ⟨3, ![1, 512, 4]⟩
abbrev S1x1 : Shape := ⟨2, ![1, 1]⟩
abbrev S768x768 : Shape := ⟨2, ![768, 768]⟩
abbrev S1x1x768x768 : Shape := ⟨4, ![1, 1, 768, 768]⟩
abbrev S512x4 : Shape := ⟨2, ![512, 4]⟩
abbrev S512x1 : Shape := ⟨2, ![512, 1]⟩
abbrev S512x768 : Shape := ⟨2, ![512, 768]⟩
abbrev S512 : Shape := ⟨1, ![512]⟩
abbrev S512x512 : Shape := ⟨2, ![512, 512]⟩
abbrev S512x5 : Shape := ⟨2, ![512, 5]⟩
abbrev S1 : Shape := ⟨1, ![1]⟩
abbrev S1x5 : Shape := ⟨2, ![1, 5]⟩
abbrev S1x512 : Shape := ⟨2, ![1, 512]⟩
abbrev S_ : Shape := ⟨0, ![]⟩

abbrev nBuf : Space → Nat
  | .hbm => 8
  | .vmem => 12
  | .smem => 1
  | _ => 0

abbrev bufTy : (tb : Table) → Fin (tcTables nBuf tb) → BufTy
  | .hbm, ⟨0, _⟩ => ⟨S8x512x512, .f32⟩
  | .hbm, ⟨1, _⟩ => ⟨S8x5x768x768, .f32⟩
  | .hbm, ⟨2, _⟩ => ⟨S5x512, .f32⟩
  | .hbm, ⟨3, _⟩ => ⟨S5, .f32⟩
  | .hbm, ⟨4, _⟩ => ⟨S8x512x4, .i32⟩
  | .hbm, ⟨5, _⟩ => ⟨S8x512, .i32⟩
  | .hbm, ⟨6, _⟩ => ⟨S1x1x1, .f32⟩
  | .hbm, ⟨7, _⟩ => ⟨S_, .f32⟩
  | .local _ .vmem, ⟨0, _⟩ => ⟨S1x5x768x768, .f32⟩
  | .local _ .vmem, ⟨1, _⟩ => ⟨S1x5x768x768, .f32⟩
  | .local _ .vmem, ⟨2, _⟩ => ⟨S1x512x512, .f32⟩
  | .local _ .vmem, ⟨3, _⟩ => ⟨S1x512x512, .f32⟩
  | .local _ .vmem, ⟨4, _⟩ => ⟨S5x512, .f32⟩
  | .local _ .vmem, ⟨5, _⟩ => ⟨S1x512x4, .i32⟩
  | .local _ .vmem, ⟨6, _⟩ => ⟨S1x512x4, .i32⟩
  | .local _ .vmem, ⟨7, _⟩ => ⟨S8x512, .i32⟩
  | .local _ .vmem, ⟨8, _⟩ => ⟨S1x1x1, .f32⟩
  | .local _ .vmem, ⟨9, _⟩ => ⟨S1x1, .f32⟩
  | .local _ .vmem, ⟨10, _⟩ => ⟨S1x1, .f32⟩
  | .local _ .vmem, ⟨11, _⟩ => ⟨S768x768, .bf16⟩
  | .local _ .smem, ⟨0, _⟩ => ⟨S5, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v201 : Index := Scalar.indexCast arg0
  let c0_87 : Index := 0#32
  ![v201.toNat, 0]
def k0_cond2 (i : grid0.Coords) : BitVec 1 :=
  let arg0 : BitVec 32 := BitVec.ofNat 32 (i 0).val
  let c7_i32 : BitVec 32 := 7#32
  let v222 : BitVec 1 := Scalar.cmpi .eq arg0 c7_i32
  let v223 : BitVec 32 := Scalar.extui v222
  let c0_i32_99 : BitVec 32 := 0#32
  let v224 : BitVec 1 := Scalar.cmpi .ne v223 c0_i32_99
  v224

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x5x768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x4 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x512x512 : Shape := ⟨3, ![8, 512, 512]⟩
abbrev S8x5x768x768 : Shape := ⟨4, ![8, 5, 768, 768]⟩
abbrev S5x512 : Shape := ⟨2, ![5, 512]⟩
abbrev S5 : Shape := ⟨1, ![5]⟩
abbrev S8x512x4 : Shape := ⟨3, ![8, 512, 4]⟩
abbrev S8x512 : Shape := ⟨2, ![8, 512]⟩
abbrev S8x512x5 : Shape := ⟨3, ![8, 512, 5]⟩
abbrev S1x1x5 : Shape := ⟨3, ![1, 1, 5]⟩
abbrev S_ : Shape := ⟨0, ![]⟩
abbrev S8x768x768 : Shape := ⟨3, ![8, 768, 768]⟩
abbrev S8x768x768x1 : Shape := ⟨4, ![8, 768, 768, 1]⟩
abbrev S1x1x1x5 : Shape := ⟨4, ![1, 1, 1, 5]⟩
abbrev S8x768x768x5 : Shape := ⟨4, ![8, 768, 768, 5]⟩
abbrev S8x769x769x5 : Shape := ⟨4, ![8, 769, 769, 5]⟩
abbrev S8x512x1 : Shape := ⟨3, ![8, 512, 1]⟩
abbrev S8 : Shape := ⟨1, ![8]⟩
abbrev S8x1 : Shape := ⟨2, ![8, 1]⟩
abbrev S8x512x3 : Shape := ⟨3, ![8, 512, 3]⟩
abbrev S8x512x1x1 : Shape := ⟨4, ![8, 512, 1, 1]⟩
abbrev S1 : Shape := ⟨1, ![1]⟩
abbrev S1x1x1x1 : Shape := ⟨4, ![1, 1, 1, 1]⟩

abbrev nBuf : Space → Nat
  | .hbm => 216
  | .vmem => 0
  | .smem => 0
  | _ => 0

abbrev hbmTy0_0 (i : Nat) : BufTy := match i % 128 with
  | 0 => ⟨S8x512x512, .f32⟩
  | 1 => ⟨S8x5x768x768, .f32⟩
  | 2 => ⟨S5x512, .f32⟩
  | 3 => ⟨S5, .f32⟩
  | 4 => ⟨S8x512x4, .i32⟩
  | 5 => ⟨S8x512, .i32⟩
  | 6 => ⟨S8x512x5, .f32⟩
  | 7 => ⟨S1x1x5, .f32⟩
  | 8 => ⟨S8x512x5, .f32⟩
  | 9 => ⟨S8x512x5, .f32⟩
  | 10 => ⟨S8x5x768x768, .i32⟩
  | 11 => ⟨S_, .f32⟩
  | 12 => ⟨S_, .i32⟩
  | 13 => ⟨S8x768x768, .f32⟩
  | 14 => ⟨S8x768x768, .i32⟩
  | 15 => ⟨S8x768x768x1, .i32⟩
  | 16 => ⟨S1x1x1x5, .i32⟩
  | 17 => ⟨S8x768x768x5, .i32⟩
  | 18 => ⟨S8x768x768x5, .i32⟩
  | 19 => ⟨S8x768x768x5, .i1⟩
  | 20 => ⟨S8x768x768x5, .f32⟩
  | 21 => ⟨S_, .f32⟩
  | 22 => ⟨S_, .f32⟩
  | 23 => ⟨S8x768x768x5, .f32⟩
  | 24 => ⟨S_, .f32⟩
  | 25 => ⟨S_, .f32⟩
  | 26 => ⟨S8x768x768x5, .f32⟩
  | 27 => ⟨S_, .i32⟩
  | 28 => ⟨S_, .f32⟩
  | 29 => ⟨S8x769x769x5, .f32⟩
  | 30 => ⟨S8x512x1, .i32⟩
  | 31 => ⟨S8x512, .i32⟩
  | 32 => ⟨S8x512x1, .i32⟩
  | 33 => ⟨S8x512, .i32⟩
  | 34 => ⟨S8x512x1, .i32⟩
  | 35 => ⟨S8x512, .i32⟩
  | 36 => ⟨S8x512x1, .i32⟩
  | 37 => ⟨S8x512, .i32⟩
  | 38 => ⟨S8x512, .i1⟩
  | 39 => ⟨S_, .i32⟩
  | 40 => ⟨S8x512, .i32⟩
  | 41 => ⟨S8x512, .i32⟩
  | 42 => ⟨S8x512, .i32⟩
  | 43 => ⟨S8x512, .i1⟩
  | 44 => ⟨S_, .i32⟩
  | 45 => ⟨S8x512, .i32⟩
  | 46 => ⟨S8x512, .i32⟩
  | 47 => ⟨S8x512, .i32⟩
  | 48 => ⟨S8, .i32⟩
  | 49 => ⟨S8x1, .i32⟩
  | 50 => ⟨S_, .i32⟩
  | 51 => ⟨S8x1, .i32⟩
  | 52 => ⟨S8x1, .i1⟩
  | 53 => ⟨S_, .i32⟩
  | 54 => ⟨S8x1, .i32⟩
  | 55 => ⟨S8x1, .i32⟩
  | 56 => ⟨S8x1, .i32⟩
  | 57 => ⟨S_, .i32⟩
  | 58 => ⟨S8x512, .i32⟩
  | 59 => ⟨S8x512, .i1⟩
  | 60 => ⟨S_, .i32⟩
  | 61 => ⟨S8x512, .i32⟩
  | 62 => ⟨S8x512, .i32⟩
  | 63 => ⟨S8x512, .i32⟩
  | 64 => ⟨S_, .i32⟩
  | 65 => ⟨S8x512, .i32⟩
  | 66 => ⟨S8x512, .i1⟩
  | 67 => ⟨S_, .i32⟩
  | 68 => ⟨S8x512, .i32⟩
  | 69 => ⟨S8x512, .i32⟩
  | 70 => ⟨S8x512, .i32⟩
  | 71 => ⟨S8x512, .i32⟩
  | 72 => ⟨S8x512x1, .i32⟩
  | 73 => ⟨S8x512x1, .i32⟩
  | 74 => ⟨S8x512x1, .i32⟩
  | 75 => ⟨S8x512x3, .i32⟩
  | 76 => ⟨S8x512x5, .f32⟩
  | 77 => ⟨S_, .i32⟩
  | 78 => ⟨S8x1, .i32⟩
  | 79 => ⟨S8x1, .i1⟩
  | 80 => ⟨S_, .i32⟩
  | 81 => ⟨S8x1, .i32⟩
  | 82 => ⟨S8x1, .i32⟩
  | 83 => ⟨S8x1, .i32⟩
  | 84 => ⟨S_, .i32⟩
  | 85 => ⟨S8x512, .i32⟩
  | 86 => ⟨S8x512, .i1⟩
  | 87 => ⟨S_, .i32⟩
  | 88 => ⟨S8x512, .i32⟩
  | 89 => ⟨S8x512, .i32⟩
  | 90 => ⟨S8x512, .i32⟩
  | 91 => ⟨S_, .i32⟩
  | 92 => ⟨S8x512, .i32⟩
  | 93 => ⟨S8x512, .i1⟩
  | 94 => ⟨S_, .i32⟩
  | 95 => ⟨S8x512, .i32⟩
  | 96 => ⟨S8x512, .i32⟩
  | 97 => ⟨S8x512, .i32⟩
  | 98 => ⟨S8x512, .i32⟩
  | 99 => ⟨S8x512x1, .i32⟩
  | 100 => ⟨S8x512x1, .i32⟩
  | 101 => ⟨S8x512x1, .i32⟩
  | 102 => ⟨S8x512x3, .i32⟩
  | 103 => ⟨S8x512x5, .f32⟩
  | 104 => ⟨S8x512x5, .f32⟩
  | 105 => ⟨S_, .i32⟩
  | 106 => ⟨S8x1, .i32⟩
  | 107 => ⟨S8x1, .i1⟩
  | 108 => ⟨S_, .i32⟩
  | 109 => ⟨S8x1, .i32⟩
  | 110 => ⟨S8x1, .i32⟩
  | 111 => ⟨S8x1, .i32⟩
  | 112 => ⟨S_, .i32⟩
  | 113 => ⟨S8x512, .i32⟩
  | 114 => ⟨S8x512, .i1⟩
  | 115 => ⟨S_, .i32⟩
  | 116 => ⟨S8x512, .i32⟩
  | 117 => ⟨S8x512, .i32⟩
  | 118 => ⟨S8x512, .i32⟩
  | 119 => ⟨S_, .i32⟩
  | 120 => ⟨S8x512, .i32⟩
  | 121 => ⟨S8x512, .i1⟩
  | 122 => ⟨S_, .i32⟩
  | 123 => ⟨S8x512, .i32⟩
  | 124 => ⟨S8x512, .i32⟩
  | 125 => ⟨S8x512, .i32⟩
  | 126 => ⟨S8x512, .i32⟩
  | 127 => ⟨S8x512x1, .i32⟩
  | _ => ⟨S8x512x512, .f32⟩

abbrev hbmTy0_1 (i : Nat) : BufTy := match i % 128 with
  | 0 => ⟨S8x512x1, .i32⟩
  | 1 => ⟨S8x512x1, .i32⟩
  | 2 => ⟨S8x512x3, .i32⟩
  | 3 => ⟨S8x512x5, .f32⟩
  | 4 => ⟨S8x512x5, .f32⟩
  | 5 => ⟨S_, .i32⟩
  | 6 => ⟨S8x1, .i32⟩
  | 7 => ⟨S8x1, .i1⟩
  | 8 => ⟨S_, .i32⟩
  | 9 => ⟨S8x1, .i32⟩
  | 10 => ⟨S8x1, .i32⟩
  | 11 => ⟨S8x1, .i32⟩
  | 12 => ⟨S_, .i32⟩
  | 13 => ⟨S8x512, .i32⟩
  | 14 => ⟨S8x512, .i1⟩
  | 15 => ⟨S_, .i32⟩
  | 16 => ⟨S8x512, .i32⟩
  | 17 => ⟨S8x512, .i32⟩
  | 18 => ⟨S8x512, .i32⟩
  | 19 => ⟨S_, .i32⟩
  | 20 => ⟨S8x512, .i32⟩
  | 21 => ⟨S8x512, .i1⟩
  | 22 => ⟨S_, .i32⟩
  | 23 => ⟨S8x512, .i32⟩
  | 24 => ⟨S8x512, .i32⟩
  | 25 => ⟨S8x512, .i32⟩
  | 26 => ⟨S8x512, .i32⟩
  | 27 => ⟨S8x512x1, .i32⟩
  | 28 => ⟨S8x512x1, .i32⟩
  | 29 => ⟨S8x512x1, .i32⟩
  | 30 => ⟨S8x512x3, .i32⟩
  | 31 => ⟨S8x512x5, .f32⟩
  | 32 => ⟨S8x512x5, .f32⟩
  | 33 => ⟨S8x512x5, .i32⟩
  | 34 => ⟨S_, .f32⟩
  | 35 => ⟨S_, .i32⟩
  | 36 => ⟨S8x512, .f32⟩
  | 37 => ⟨S8x512, .i32⟩
  | 38 => ⟨S_, .f32⟩
  | 39 => ⟨S8x512, .f32⟩
  | 40 => ⟨S_, .f32⟩
  | 41 => ⟨S8x512, .f32⟩
  | 42 => ⟨S8x512, .f32⟩
  | 43 => ⟨S8x512x1, .f32⟩
  | 44 => ⟨S8x512x5, .f32⟩
  | 45 => ⟨S8x512x5, .f32⟩
  | 46 => ⟨S8x512x5, .f32⟩
  | 47 => ⟨S_, .f32⟩
  | 48 => ⟨S8x512, .f32⟩
  | 49 => ⟨S8x512x1, .f32⟩
  | 50 => ⟨S8x512x1, .f32⟩
  | 51 => ⟨S8x512x5, .f32⟩
  | 52 => ⟨S8x512x5, .f32⟩
  | 53 => ⟨S8x512x1, .i32⟩
  | 54 => ⟨S_, .i32⟩
  | 55 => ⟨S8x512x1, .i32⟩
  | 56 => ⟨S8x512x1, .i1⟩
  | 57 => ⟨S_, .i32⟩
  | 58 => ⟨S8x512x1, .i32⟩
  | 59 => ⟨S8x512x1, .i32⟩
  | 60 => ⟨S8x512x1, .i32⟩
  | 61 => ⟨S8x512x1x1, .i32⟩
  | 62 => ⟨S1, .i32⟩
  | 63 => ⟨S_, .i32⟩
  | 64 => ⟨S8x512x1x1, .i32⟩
  | 65 => ⟨S8x512x1x1, .i1⟩
  | 66 => ⟨S1x1x1x1, .i32⟩
  | 67 => ⟨S8x512x1x1, .i32⟩
  | 68 => ⟨S8x512x1x1, .i1⟩
  | 69 => ⟨S8x512x1x1, .i1⟩
  | 70 => ⟨S_, .i1⟩
  | 71 => ⟨S8x512x1, .i1⟩
  | 72 => ⟨S8x512x1, .f32⟩
  | 73 => ⟨S_, .f32⟩
  | 74 => ⟨S8x512x1, .f32⟩
  | 75 => ⟨S8x512x1, .f32⟩
  | 76 => ⟨S8x512, .f32⟩
  | 77 => ⟨S8x512, .f32⟩
  | 78 => ⟨S_, .i32⟩
  | 79 => ⟨S8x512, .i32⟩
  | 80 => ⟨S8x512, .i1⟩
  | 81 => ⟨S8x512, .f32⟩
  | 82 => ⟨S8x512, .f32⟩
  | 83 => ⟨S_, .f32⟩
  | 84 => ⟨S_, .f32⟩
  | 85 => ⟨S_, .f32⟩
  | 86 => ⟨S_, .f32⟩
  | 87 => ⟨S_, .f32⟩
  | _ => ⟨S8x512x512, .f32⟩

abbrev hbmTy (i : Nat) : BufTy := match i / 128 with
  | 0 => hbmTy0_0 i
  | 1 => hbmTy0_1 i
  | _ => ⟨S8x512x512, .f32⟩

abbrev bufTy : (tb : Table) → Fin (tcTables nBuf tb) → BufTy
  | .hbm, ⟨i, _⟩ => hbmTy i
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v4 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v5 : Ref sig .tc := ⟨.hbm, 20, rfl⟩
abbrev main_call2_call0_cst : Ref sig .tc := ⟨.hbm, 21, rfl⟩
abbrev main_call2_call0_v0 : Ref sig .tc := ⟨.hbm, 22, rfl⟩
abbrev main_v6 : Ref sig .tc := ⟨.hbm, 23, rfl⟩
abbrev main_call3_call0_cst : Ref sig .tc := ⟨.hbm, 24, rfl⟩
abbrev main_call3_call0_v0 : Ref sig .tc := ⟨.hbm, 25, rfl⟩
abbrev main_v7 : Ref sig .tc := ⟨.hbm, 26, rfl⟩
abbrev main_c : Ref sig .tc := ⟨.hbm, 27, rfl⟩
abbrev main_call4_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_c_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_6 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_8 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_10 : Ref sig .tc := ⟨.hbm, 84, rfl⟩
abbrev main_v53 : Ref sig .tc := ⟨.hbm, 85, rfl⟩
abbrev main_v54 : Ref sig .tc := ⟨.hbm, 86, rfl⟩
abbrev main_c_11 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_14 : Ref sig .tc := ⟨.hbm, 105, rfl⟩
abbrev main_v70 : Ref sig .tc := ⟨.hbm, 106, rfl⟩
abbrev main_v71 : Ref sig .tc := ⟨.hbm, 107, rfl⟩
abbrev main_c_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_16 : Ref sig .tc := ⟨.hbm, 112, rfl⟩
abbrev main_v75 : Ref sig .tc := ⟨.hbm, 113, rfl⟩
abbrev main_v76 : Ref sig .tc := ⟨.hbm, 114, rfl⟩
abbrev main_c_17 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_18 : Ref sig .tc := ⟨.hbm, 119, rfl⟩
abbrev main_v80 : Ref sig .tc := ⟨.hbm, 120, rfl⟩
abbrev main_v81 : Ref sig .tc := ⟨.hbm, 121, rfl⟩
abbrev main_c_19 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_20 : Ref sig .tc := ⟨.hbm, 133, rfl⟩
abbrev main_v92 : Ref sig .tc := ⟨.hbm, 134, rfl⟩
abbrev main_v93 : Ref sig .tc := ⟨.hbm, 135, rfl⟩
abbrev main_c_21 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_22 : Ref sig .tc := ⟨.hbm, 140, rfl⟩
abbrev main_v97 : Ref sig .tc := ⟨.hbm, 141, rfl⟩
abbrev main_v98 : Ref sig .tc := ⟨.hbm, 142, rfl⟩
abbrev main_c_23 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_c_24 : Ref sig .tc := ⟨.hbm, 147, rfl⟩
abbrev main_v102 : Ref sig .tc := ⟨.hbm, 148, rfl⟩
abbrev main_v103 : Ref sig .tc := ⟨.hbm, 149, rfl⟩
abbrev main_c_25 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_call7_v0 : Ref sig .tc := ⟨.hbm, 161, rfl⟩
abbrev main_call7_cst : Ref sig .tc := ⟨.hbm, 162, rfl⟩
abbrev main_call7_c : Ref sig .tc := ⟨.hbm, 163, rfl⟩
abbrev main_call7_v1_0 : Ref sig .tc := ⟨.hbm, 164, rfl⟩
abbrev main_v114 : Ref sig .tc := ⟨.hbm, 165, rfl⟩
abbrev main_call8_cst : Ref sig .tc := ⟨.hbm, 166, rfl⟩
abbrev main_call8_v0 : Ref sig .tc := ⟨.hbm, 167, rfl⟩
abbrev main_call8_cst_0 : Ref sig .tc := ⟨.hbm, 168, rfl⟩
abbrev main_call8_v1 : Ref sig .tc := ⟨.hbm, 169, rfl⟩
abbrev main_call8_v2 : Ref sig .tc := ⟨.hbm, 170, rfl⟩
abbrev main_call8_v3 : Ref sig .tc := ⟨.hbm, 171, rfl⟩
abbrev main_call8_v4 : Ref sig .tc := ⟨.hbm, 172, rfl⟩
abbrev main_call8_v5 : Ref sig .tc := ⟨.hbm, 173, rfl⟩
abbrev main_call8_v6 : Ref sig .tc := ⟨.hbm, 174, rfl⟩
abbrev main_call8_cst_1 : Ref sig .tc := ⟨.hbm, 175, rfl⟩
abbrev main_call8_v7 : Ref sig .tc := ⟨.hbm, 176, rfl⟩
abbrev main_call8_v8 : Ref sig .tc := ⟨.hbm, 177, rfl⟩
abbrev main_call8_v9 : Ref sig .tc := ⟨.hbm, 178, rfl⟩
abbrev main_call8_v10 : Ref sig .tc := ⟨.hbm, 179, rfl⟩
abbrev main_v115 : Ref sig .tc := ⟨.hbm, 180, rfl⟩
abbrev main_v116 : Ref sig .tc := ⟨.hbm, 181, rfl⟩
abbrev main_call9_c : Ref sig .tc := ⟨.hbm, 182, rfl⟩
abbrev main_call9_v0 : Ref sig .tc := ⟨.hbm, 183, rfl⟩
abbrev main_call9_v1 : Ref sig .tc := ⟨.hbm, 184, rfl⟩
abbrev main_call9_c_0 : Ref sig .tc := ⟨.hbm, 185, rfl⟩
abbrev main_call9_v2 : Ref sig .tc := ⟨.hbm, 186, rfl⟩
abbrev main_call9_v3 : Ref sig .tc := ⟨.hbm, 187, rfl⟩
abbrev main_call9_v4 : Ref sig .tc := ⟨.hbm, 188, rfl⟩
abbrev main_call9_v5 : Ref sig .tc := ⟨.hbm, 189, rfl⟩
abbrev main_call9_c_1 : Ref sig .tc := ⟨.hbm, 190, rfl⟩
abbrev main_call9_c_2 : Ref sig .tc := ⟨.hbm, 191, rfl⟩
abbrev main_call9_v6 : Ref sig .tc := ⟨.hbm, 192, rfl⟩
abbrev main_call9_v7 : Ref sig .tc := ⟨.hbm, 193, rfl⟩
abbrev main_call9_v8 : Ref sig .tc := ⟨.hbm, 194, rfl⟩
abbrev main_call9_v9 : Ref sig .tc := ⟨.hbm, 195, rfl⟩
abbrev main_call9_v10 : Ref sig .tc := ⟨.hbm, 196, rfl⟩
abbrev main_call9_v11 : Ref sig .tc := ⟨.hbm, 197, rfl⟩
abbrev main_call9_c_3 : Ref sig .tc := ⟨.hbm, 198, rfl⟩
abbrev main_call9_v12 : Ref sig .tc := ⟨.hbm, 199, rfl⟩
abbrev main_call9_v13 : Ref sig .tc := ⟨.hbm, 200, rfl⟩
abbrev main_call9_cst : Ref sig .tc := ⟨.hbm, 201, rfl⟩
abbrev main_call9_v14 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_c_26 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_cst : Ref sig .tc := ⟨.hbm, 211, rfl⟩
abbrev main_v124 : Ref sig .tc := ⟨.hbm, 212, rfl⟩
abbrev main_cst_27 : Ref sig .tc := ⟨.hbm, 213, rfl⟩
abbrev main_v125 : Ref sig .tc := ⟨.hbm, 214, rfl⟩
abbrev main_v126 : Ref sig .tc := ⟨.hbm, 215, rfl⟩

abbrev nD : Nat := 1
abbrev τ : Topo := Topo.v7x

variable {F : FTy → Type} [FloatOps F]
-- ==== Proof.Body.lean ====
module

public import proofs.«01_k».proof.Proof.Gen.KernelIdeal.Frame
public import Idealize.ShloMosaic.Lib.Pipeline.Value
public import Idealize.ShloMosaic.Lib.Tactic
public import Idealize.ShloMosaic.PureOps.Ideal

/-! What one grid point of the kernel leaves: the two running sums after it, and at the last point their quotient,
as the body's own arithmetic over the blocks the point reads. -/

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The label of every pixel of a point's image: the first class of the largest score, as a float. -/
def labOf (x0 : Vec Ideal S1x5x768x768 .f32) : FVec Ideal S768x768 .bf16 :=
  k0_pay7 (View.ld x0 (Rect.unit ![0, 0, 0, 0] ![1, 1, 768, 768] inb_S1x5x768x768_S1x1x768x768_0_0_0_0))
    (View.ld x0 (Rect.unit ![0, 1, 0, 0] ![1, 1, 768, 768] inb_S1x5x768x768_S1x1x768x768_0_1_0_0))
    (View.ld x0 (Rect.unit ![0, 2, 0, 0] ![1, 1, 768, 768] inb_S1x5x768x768_S1x1x768x768_0_2_0_0))
    (View.ld x0 (Rect.unit ![0, 3, 0, 0] ![1, 1, 768, 768] inb_S1x5x768x768_S1x1x768x768_0_3_0_0))
    (View.ld x0 (Rect.unit ![0, 4, 0, 0] ![1, 1, 768, 768] inb_S1x5x768x768_S1x1x768x768_0_4_0_0))

/-- The most frequent label of every box, from the labels and the boxes. -/
def majOf (lab : FVec Ideal S768x768 .bf16) (x4 : Vec Ideal S1x512x4 .i32) : FVec Ideal S512x1 .f32 :=
  k0_pay25 (k0_pay17 (k0_pay13 x4) (k0_pay14 x4) (k0_pay15 lab)) (k0_pay18 (k0_pay13 x4) (k0_pay14 x4) (k0_pay15 lab))
    (k0_pay20 (k0_pay13 x4) (k0_pay14 x4) lab) (k0_pay21 (k0_pay13 x4) (k0_pay14 x4) lab)
    (k0_pay22 (k0_pay9 x4) (k0_pay10 x4) (k0_pay11 x4) (k0_pay12 x4) (k0_pay13 x4) (k0_pay14 x4) (k0_pay15 lab) lab)
    k0_pay23 (k0_pay24 (k0_pay13 x4) (k0_pay14 x4) (k0_pay15 lab)) (FloatOps.ofBits FTy.f32 1065353216#32)

/-- The bias of class `0 … 4`, one scalar each. -/
def biasOf (x3 : Vec Ideal S5 .f32) (k : Fin 5) : Elt Ideal .f32 := x3 (fun a => match a with | ⟨0, _⟩ => k)

/-- The logits of every row. -/
def logitsOf (x1 : Vec Ideal S1x512x512 .f32) (x2 : Vec Ideal S5x512 .f32) (x3 : Vec Ideal S5 .f32) :
    FVec Ideal S512x5 .f32 :=
  k0_pay26 x1 x2 (View.ld x3 (Rect.unit ![0] ![1] inb_S5_S1_0) (Shape.Idx.first (by decide)))
    (View.ld x3 (Rect.unit ![1] ![1] inb_S5_S1_1) (Shape.Idx.first (by decide)))
    (View.ld x3 (Rect.unit ![2] ![1] inb_S5_S1_2) (Shape.Idx.first (by decide)))
    (View.ld x3 (Rect.unit ![3] ![1] inb_S5_S1_3) (Shape.Idx.first (by decide)))
    (View.ld x3 (Rect.unit ![4] ![1] inb_S5_S1_4) (Shape.Idx.first (by decide)))

/-- The logarithm of the sum of exponentials of every row's logits. -/
def lseOf (x1 : Vec Ideal S1x512x512 .f32) (x2 : Vec Ideal S5x512 .f32) (x3 : Vec Ideal S5 .f32) :
    FVec Ideal S512x1 .f32 :=
  k0_pay27 x1 x2 (View.ld x3 (Rect.unit ![0] ![1] inb_S5_S1_0) (Shape.Idx.first (by decide)))
    (View.ld x3 (Rect.unit ![1] ![1] inb_S5_S1_1) (Shape.Idx.first (by decide)))
    (View.ld x3 (Rect.unit ![2] ![1] inb_S5_S1_2) (Shape.Idx.first (by decide)))
    (View.ld x3 (Rect.unit ![3] ![1] inb_S5_S1_3) (Shape.Idx.first (by decide)))
    (View.ld x3 (Rect.unit ![4] ![1] inb_S5_S1_4) (Shape.Idx.first (by decide)))

/-- The loss of every row of a point. -/
def nllOf (x0 : Vec Ideal S1x5x768x768 .f32) (x1 : Vec Ideal S1x512x512 .f32) (x2 : Vec Ideal S5x512 .f32)
    (x3 : Vec Ideal S5 .f32) (x4 : Vec Ideal S1x512x4 .i32) : FVec Ideal S512x1 .f32 :=
  k0_pay28 (majOf (labOf x0) x4) (logitsOf x1 x2 x3) (lseOf x1 x2 x3) (FloatOps.ofBits FTy.f32 0#32)

/-- The row of the mask a point reads. -/
def mrowOf (i : grid0.Coords) (x5 : Vec Ideal S8x512 .i32) : Vec Ideal S1x512 .i32 :=
  View.ld x5 (Rect.unit (k0_off1 i) ![1, 512] (k0_off1_inb i))

/-- The running loss after a point, from the one before it. -/
def numStep (i : grid0.Coords) (x0 : Vec Ideal S1x5x768x768 .f32) (x1 : Vec Ideal S1x512x512 .f32)
    (x2 : Vec Ideal S5x512 .f32) (x3 : Vec Ideal S5 .f32) (x4 : Vec Ideal S1x512x4 .i32) (x5 : Vec Ideal S8x512 .i32)
    (xs : Vec Ideal S1x1 .f32) : Vec Ideal S1x1 .f32 :=
  k0_pay4 (nllOf x0 x1 x2 x3 x4) (mrowOf i x5) xs

/-- The running mask sum after a point, from the one before it. -/
def denStep (i : grid0.Coords) (x5 : Vec Ideal S8x512 .i32) (xs : Vec Ideal S1x1 .f32) : Vec Ideal S1x1 .f32 :=
  k0_pay5 (mrowOf i x5) xs

theorem num_A (c : Dev nD) (i : grid0.Coords) (a1) (h1 : a1.IsWhole) (a2) (h2 : a2.IsWhole) (a3) (h3 : a3.IsWhole)
    (a4) (h4 : a4.IsWhole) (a5) (h5 : a5.IsWhole) (a6) (h6 : a6.IsWhole) (a7) (h7 : a7.IsWhole) (a8) (h8 : a8.IsWhole)
    (a9) (h9 : a9.IsWhole) (a10) (h10 : a10.IsWhole) (hc0 hc1) (x0 x1 x2 x3 x4 x5) :
    sout0_A_0 (F := Ideal) c i a1 h1 a2 h2 a3 h3 a4 h4 a5 h5 a6 h6 a7 h7 a8 h8 a9 h9 a10 h10 hc0 hc1 x0 x1 x2 x3 x4 x5
      = numStep i x0 x1 x2 x3 x4 x5 (k0_pay2 (F := Ideal)) := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1x1) hz2]
  simp only [View.readAt_eq_ld, h1.read_unread, h2.read_unread, h3.read_unread, h4.read_unread, h5.read_unread,
    h6.read_unread, h8.read_unread, h9.read_unread, View.ld_unit_zero (S := S1x1) hz2,
    View.ld_unit_zero (S := S5x512) hz2, View.ld_unit_zero (S := S1x512x512) hz3,
    View.ld_unit_zero (S := S1x512x4) hz3, View.readCov_unit_zero (S := S768x768) _ hz2,
    View.readCov_unit_zero (S := S1x1) _ hz2]
  rfl

theorem den_A (c : Dev nD) (i : grid0.Coords) (a1) (h1 : a1.IsWhole) (a2) (h2 : a2.IsWhole) (a3) (h3 : a3.IsWhole)
    (a4) (h4 : a4.IsWhole) (a5) (h5 : a5.IsWhole) (a6) (h6 : a6.IsWhole) (a7) (h7 : a7.IsWhole) (a8) (h8 : a8.IsWhole)
    (a9) (h9 : a9.IsWhole) (a10) (h10 : a10.IsWhole) (hc0 hc1) (x0 x1 x2 x3 x4 x5) :
    sout0_A_1 (F := Ideal) c i a1 h1 a2 h2 a3 h3 a4 h4 a5 h5 a6 h6 a7 h7 a8 h8 a9 h9 a10 h10 hc0 hc1 x0 x1 x2 x3 x4 x5
      = denStep i x5 (k0_pay3 (F := Ideal)) := by
  unfold sout0_A_1
  rw [View.read_writes_eq_canon _ _ _ (scover0_A_1 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1x1) hz2]
  simp only [View.readAt_eq_ld, h1.read_unread, h2.read_unread, h3.read_unread, h4.read_unread, h5.read_unread,
    h6.read_unread, h8.read_unread, h9.read_unread, View.ld_unit_zero (S := S1x1) hz2,
    View.ld_unit_zero (S := S5x512) hz2, View.ld_unit_zero (S := S1x512x512) hz3,
    View.ld_unit_zero (S := S1x512x4) hz3, View.readCov_unit_zero (S := S768x768) _ hz2,
    View.readCov_unit_zero (S := S1x1) _ hz2]
  rfl

theorem num_B (c : Dev nD) (i : grid0.Coords) (a1) (h1 : a1.IsWhole) (a2) (h2 : a2.IsWhole) (a3) (h3 : a3.IsWhole)
    (a4) (h4 : a4.IsWhole) (a5) (h5 : a5.IsWhole) (a6) (h6 : a6.IsWhole) (a7) (h7 : a7.IsWhole) (a8) (h8 : a8.IsWhole)
    (a9) (h9 : a9.IsWhole) (a10) (h10 : a10.IsWhole) (hc0 hc1) (x0 x1 x2 x3 x4 x5 xs0 xs1) :
    sout0_B_0 (F := Ideal) c i a1 h1 a2 h2 a3 h3 a4 h4 a5 h5 a6 h6 a7 h7 a8 h8 a9 h9 a10 h10 hc0 hc1 x0 x1 x2 x3 x4 x5 xs0 xs1
      = numStep i x0 x1 x2 x3 x4 x5 xs0 := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 x4 x5 xs0 xs1)]
  unfold kernelRun0_B
  dsimp only
  sl_unfold_words
  rw [View.canon_unit_zero hz2]
  simp only [View.readAt_eq_ld, h1.read_unread, h2.read_unread, h3.read_unread, h4.read_unread, h5.read_unread,
    h6.read_unread, h8.read_unread, h9.read_unread, View.ld_unit_zero (S := S1x1) hz2,
    View.ld_unit_zero (S := S5x512) hz2, View.ld_unit_zero (S := S1x512x512) hz3,
    View.ld_unit_zero (S := S1x512x4) hz3, View.readCov_unit_zero (S := S768x768) _ hz2,
    View.readCov_unit_zero (S := S1x1) _ hz2]
  rfl

theorem den_B (c : Dev nD) (i : grid0.Coords) (a1) (h1 : a1.IsWhole) (a2) (h2 : a2.IsWhole) (a3) (h3 : a3.IsWhole)
    (a4) (h4 : a4.IsWhole) (a5) (h5 : a5.IsWhole) (a6) (h6 : a6.IsWhole) (a7) (h7 : a7.IsWhole) (a8) (h8 : a8.IsWhole)
    (a9) (h9 : a9.IsWhole) (a10) (h10 : a10.IsWhole) (hc0 hc1) (x0 x1 x2 x3 x4 x5 xs0 xs1) :
    sout0_B_1 (F := Ideal) c i a1 h1 a2 h2 a3 h3 a4 h4 a5 h5 a6 h6 a7 h7 a8 h8 a9 h9 a10 h10 hc0 hc1 x0 x1 x2 x3 x4 x5 xs0 xs1
      = denStep i x5 xs1 := by
  unfold sout0_B_1
  rw [View.read_writes_eq_canon _ _ _ (scover0_B_1 c i a1 h1 a2 h2 a3 h3 a4 h4 a5 h5 a6 h6 a7 h7 a8 h8 a9 h9 a10 h10 hc0 hc1 x0 x1 x2 x3 x4 x5 xs0 xs1)]
  unfold kernelRun0_B
  dsimp only
  sl_unfold_words
  rw [View.canon_unit_zero hz2]
  simp only [View.readAt_eq_ld, h1.read_unread, h2.read_unread, h3.read_unread, h4.read_unread, h5.read_unread,
    h6.read_unread, h8.read_unread, h9.read_unread, View.ld_unit_zero (S := S1x1) hz2,
    View.ld_unit_zero (S := S5x512) hz2, View.ld_unit_zero (S := S1x512x512) hz3,
    View.ld_unit_zero (S := S1x512x4) hz3, View.readCov_unit_zero (S := S768x768) _ hz2,
    View.readCov_unit_zero (S := S1x1) _ hz2]
  rfl

theorem num_C (c : Dev nD) (i : grid0.Coords) (a1) (h1 : a1.IsWhole) (a2) (h2 : a2.IsWhole) (a3) (h3 : a3.IsWhole)
    (a4) (h4 : a4.IsWhole) (a5) (h5 : a5.IsWhole) (a6) (h6 : a6.IsWhole) (a7) (h7 : a7.IsWhole) (a8) (h8 : a8.IsWhole)
    (a9) (h9 : a9.IsWhole) (a10) (h10 : a10.IsWhole) (hc0 hc1) (x0 x1 x2 x3 x4 x5 xs0 xs1) :
    sout0_C_0 (F := Ideal) c i a1 h1 a2 h2 a3 h3 a4 h4 a5 h5 a6 h6 a7 h7 a8 h8 a9 h9 a10 h10 hc0 hc1 x0 x1 x2 x3 x4 x5 xs0 xs1
      = numStep i x0 x1 x2 x3 x4 x5 xs0 := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz2]
  simp only [View.readAt_eq_ld, h1.read_unread, h2.read_unread, h3.read_unread, h4.read_unread, h5.read_unread,
    h6.read_unread, h8.read_unread, h9.read_unread, View.ld_unit_zero (S := S1x1) hz2,
    View.ld_unit_zero (S := S5x512) hz2, View.ld_unit_zero (S := S1x512x512) hz3,
    View.ld_unit_zero (S := S1x512x4) hz3, View.readCov_unit_zero (S := S768x768) _ hz2,
    View.readCov_unit_zero (S := S1x1) _ hz2]
  rfl

theorem den_C (c : Dev nD) (i : grid0.Coords) (a1) (h1 : a1.IsWhole) (a2) (h2 : a2.IsWhole) (a3) (h3 : a3.IsWhole)
    (a4) (h4 : a4.IsWhole) (a5) (h5 : a5.IsWhole) (a6) (h6 : a6.IsWhole) (a7) (h7 : a7.IsWhole) (a8) (h8 : a8.IsWhole)
    (a9) (h9 : a9.IsWhole) (a10) (h10 : a10.IsWhole) (hc0 hc1) (x0 x1 x2 x3 x4 x5 xs0 xs1) :
    sout0_C_1 (F := Ideal) c i a1 h1 a2 h2 a3 h3 a4 h4 a5 h5 a6 h6 a7 h7 a8 h8 a9 h9 a10 h10 hc0 hc1 x0 x1 x2 x3 x4 x5 xs0 xs1
      = denStep i x5 xs1 := by
  unfold sout0_C_1
  rw [View.read_writes_eq_canon _ _ _ (scover0_C_1 c i a1 h1 a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz2]
  simp only [View.readAt_eq_ld, h1.read_unread, h2.read_unread, h3.read_unread, h4.read_unread, h5.read_unread,
    h6.read_unread, h8.read_unread, h9.read_unread, View.ld_unit_zero (S := S1x1) hz2,
    View.ld_unit_zero (S := S5x512) hz2, View.ld_unit_zero (S := S1x512x512) hz3,
    View.ld_unit_zero (S := S1x512x4) hz3, View.readCov_unit_zero (S := S768x768) _ hz2,
    View.readCov_unit_zero (S := S1x1) _ hz2]
  rfl

theorem out_C (c : Dev nD) (i : grid0.Coords) (a1) (h1 : a1.IsWhole) (a2) (h2 : a2.IsWhole) (a3) (h3 : a3.IsWhole)
    (a4) (h4 : a4.IsWhole) (a5) (h5 : a5.IsWhole) (a6) (h6 : a6.IsWhole) (a7) (h7 : a7.IsWhole) (a8) (h8 : a8.IsWhole)
    (a9) (h9 : a9.IsWhole) (a10) (h10 : a10.IsWhole) (hc0 hc1) (x0 x1 x2 x3 x4 x5 xs0 xs1) :
    out0_C_6 (F := Ideal) c i a1 h1 a2 h2 a3 h3 a4 h4 a5 h5 a6 h6 a7 h7 a8 h8 a9 h9 a10 h10 hc0 hc1 x0 x1 x2 x3 x4 x5 xs0 xs1
      = k0_pay6 (numStep i x0 x1 x2 x3 x4 x5 xs0) (denStep i x5 xs1) := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 x4 x5 xs0 xs1)]
  unfold kernelRun0_C
  dsimp only
  sl_unfold_words
  rw [View.canon_unit_zero hz3]
  simp only [View.readAt_eq_ld, h1.read_unread, h2.read_unread, h3.read_unread, h4.read_unread, h5.read_unread,
    h6.read_unread, h8.read_unread, h9.read_unread, View.ld_unit_zero (S := S1x1) hz2,
    View.ld_unit_zero (S := S5x512) hz2, View.ld_unit_zero (S := S1x512x512) hz3,
    View.ld_unit_zero (S := S1x512x4) hz3, View.readCov_unit_zero (S := S768x768) _ hz2,
    View.readCov_unit_zero (S := S1x1) _ hz2]
  rfl

end Cert.KernelIdeal.Body
end
-- ==== Proof.Accum.lean ====
module

public import proofs.«01_k».proof.Proof.Body
public import Idealize.ShloMosaic.Lib.Pointwise
public import Idealize.ShloMosaic.Lib.StableHlo.RunRead

/-! The kernel's two running sums over the grid, and the array its last point writes. -/

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The running loss after point `n`. -/
def numAt (c : Dev nD) : (n : ℕ) → n < cfg0.N → Vec Ideal S1x1 .f32
  | 0, h => numStep (grid0.coords ⟨0, h⟩) (iblk m c 0 ⟨0, h⟩) (iblk m c 1 ⟨0, h⟩) (iblk m c 2 ⟨0, h⟩) (iblk m c 3 ⟨0, h⟩)
      (iblk m c 4 ⟨0, h⟩) (iblk m c 5 ⟨0, h⟩) (k0_pay2 (F := Ideal))
  | n + 1, h => numStep (grid0.coords ⟨n + 1, h⟩) (iblk m c 0 ⟨n + 1, h⟩) (iblk m c 1 ⟨n + 1, h⟩) (iblk m c 2 ⟨n + 1, h⟩)
      (iblk m c 3 ⟨n + 1, h⟩) (iblk m c 4 ⟨n + 1, h⟩) (iblk m c 5 ⟨n + 1, h⟩) (numAt c n (Nat.lt_of_succ_lt h))

/-- The running mask sum after point `n`. -/
def denAt (c : Dev nD) : (n : ℕ) → n < cfg0.N → Vec Ideal S1x1 .f32
  | 0, h => denStep (grid0.coords ⟨0, h⟩) (iblk m c 5 ⟨0, h⟩) (k0_pay3 (F := Ideal))
  | n + 1, h => denStep (grid0.coords ⟨n + 1, h⟩) (iblk m c 5 ⟨n + 1, h⟩) (denAt c n (Nat.lt_of_succ_lt h))

/-- What the carried buffers hold after point `n` are the two running sums. -/
theorem carried_eq (c : Dev nD) : ∀ (n : ℕ) (h : n < cfg0.N),
    (outsAt0 m c n h).2 = (numAt m c n h, denAt m c n h)
  | 0, h => by
    rw [show outsAt0 m c 0 h = _ from outsAt0_A m c ⟨0, h⟩ rfl (by show ¬0 % 8 = 7; decide)]
    refine Prod.ext ?_ ?_
    · dsimp only
      rw [num_A]; rfl
    · dsimp only
      rw [den_A]; rfl
  | n + 1, h => by
    have hN : cfg0.N = 8 := N_0
    have ih := carried_eq c n (Nat.lt_of_succ_lt h)
    have h0 : ¬(⟨n + 1, h⟩ : Fin cfg0.N).val % 8 = 0 := by dsimp only; omega
    by_cases h1 : (⟨n + 1, h⟩ : Fin cfg0.N).val % 8 = 7
    · rw [show outsAt0 m c (n + 1) h = _ from outsAt0_C m c ⟨n + 1, h⟩ h0 h1]
      refine Prod.ext ?_ ?_
      · dsimp only
        rw [num_C]
        show numStep _ _ _ _ _ _ _ (outsAt0 m c n _).2.1 = numStep _ _ _ _ _ _ _ (numAt m c n _)
        rw [ih]
      · dsimp only
        rw [den_C]
        show denStep _ _ (outsAt0 m c n _).2.2 = denStep _ _ (denAt m c n _)
        rw [ih]
    · rw [show outsAt0 m c (n + 1) h = _ from outsAt0_B m c ⟨n + 1, h⟩ h0 h1]
      refine Prod.ext ?_ ?_
      · dsimp only
        rw [num_B]
        show numStep _ _ _ _ _ _ _ (outsAt0 m c n _).2.1 = numStep _ _ _ _ _ _ _ (numAt m c n _)
        rw [ih]
      · dsimp only
        rw [den_B]
        show denStep _ _ (outsAt0 m c n _).2.2 = denStep _ _ (denAt m c n _)
        rw [ih]

/-- The last point is in the grid. -/
theorem lt7 : 7 < cfg0.N := by rw [show cfg0.N = 8 from N_0]; decide

/-- The array the kernel writes: the quotient of the two running sums after the last point. -/
abbrev resultK (c : Dev nD) : Buf (Elt Ideal) ((c : Thread nD τ).loc main_v0) :=
  k0_pay6 (numAt m c 7 lt7) (denAt m c 7 lt7)

theorem out_last (c : Dev nD) : (outsAt0 m c 7 lt7).1 = k0_pay6 (numAt m c 7 lt7) (denAt m c 7 lt7) := by
  have h0 : ¬(⟨7, lt7⟩ : Fin cfg0.N).val % 8 = 0 := by decide
  have h1 : (⟨7, lt7⟩ : Fin cfg0.N).val % 8 = 7 := by decide
  have ih := carried_eq m c 6 (Nat.lt_of_succ_lt lt7)
  rw [show outsAt0 m c 7 lt7 = _ from outsAt0_C m c ⟨7, lt7⟩ h0 h1]
  dsimp only
  rw [out_C]
  show k0_pay6 (numStep _ _ _ _ _ _ _ (outsAt0 m c 6 _).2.1) (denStep _ _ (outsAt0 m c 6 _).2.2)
    = k0_pay6 (numStep _ _ _ _ _ _ _ (numAt m c 6 _)) (denStep _ _ (denAt m c 6 _))
  rw [ih]

theorem flushed_eq (c : Dev nD) (t : Fin cfg0.N) (hf : (cfg0.win 6).flush t = true) :
    (dats m 0 c).flushed 6 t = ((cfg0.win 6).blk t).view.read (Elt Ideal) (resultK m c) := by
  have hN : cfg0.N = 8 := N_0
  have h7 : t.val = 7 := by have := (flush0_6 t).mp hf; have := t.isLt; omega
  obtain rfl : t = t0_7 := Fin.ext h7
  show (cfg0.win 6).cut (grid0.coords t0_7) ((dats m 0 c).after 6 t0_7) = _
  rw [after0_6, show (outsAt0 m c t0_7.val t0_7.isLt).1 = _ from out_last m c]
  have hz' : (fun a => win0_6.index t0_7 a * main_v0.ty.shape.size a) = fun _ => 0 := funext fun a => by fin_cases a <;> decide
  exact (Memref.read_access_unit_zero (Elt Ideal) main_v0 hz' (fun a => by rw [congrFun hz' a]; simp) (resultK m c)).symm

/-- So the result array ends holding that quotient. -/
theorem final_o (c : Dev nD) : (dats m 0 c).arrAt 6 cfg0.N = resultK m c :=
  (dats m 0 c).arrAt_eq_of_cover 6 (resultK m c) (flushed_eq m c) fun i =>
    ⟨t0_7, (flush0_6 t0_7).mpr rfl, by
      show i ∈ ((View.whole main_v0).slice (win0_6.rect t0_7)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 1 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 1 from by decide +kernel]; omega
      | ⟨2, _⟩ => show win0_6.index t0_7 2 * win0_6.size 2 ≤ (i 2 : Nat) ∧ (i 2 : Nat) < win0_6.index t0_7 2 * win0_6.size 2 + win0_6.xsize (grid0.coords t0_7) 2
                  rw [show win0_6.index t0_7 2 * win0_6.size 2 = 0 from by decide +kernel, show win0_6.xsize (grid0.coords t0_7) 2 = 1 from by decide +kernel]; omega⟩

/-- What the kernel leaves in its result: the one entry of that array. -/
def outK (c : Dev nD) : Buf (Elt Ideal) ((c : Thread nD τ).loc main_v1) :=
  shapeCast S_ (k0_pay6 (numAt m c 7 lt7) (denAt m c 7 lt7)) shapeCasts_S1x1x1_S_

theorem run : θ_run defs (onTc (τ := τ) (main (F := Ideal))) ⟨m, fun _ => 0, ρ⟩ fun r => ∀ c : Dev nD,
    r.2.mem ((c : Thread nD τ).loc main_v1) = outK m c := by
  refine (θ_run defs _ _).mono (fun r h c => ?_) (run_main m ρ)
  refine ((h c).2 main_v1 (by decide)).trans ?_
  show StableHlo.after _ _ _ = _
  have hv : Pipeline.withArrays (cfgs 0).spec c (V0 m c) (fun w => (dats m 0 c).arrAt w (cfgs 0).N) (Proc.devRef .tc main_v0)
      = resultK m c :=
    (Pipeline.withArrays_arr (cfgs 0).spec (by decide) c (V0 m c) _ 6).trans (final_o m c)
  simp only [List.flatten_cons, List.flatten_nil, List.append_nil]
  after_reads_simp
  rw [hv]
  rfl

end Cert.KernelIdeal.Body

end
-- ==== Proof.Num.lean ====
module

public import Idealize.ShloMosaic.PureOps.Ideal
public import Idealize.ShloMosaic.Lib.Pointwise

/-! Numbers shared by both programs: counts as extended reals, the first greatest of five, counts in a box. -/

@[expose] public section

set_option maxRecDepth 16384

noncomputable section

namespace Cert.Num

open Idealize.ShloMosaic

/-- A natural number as an extended real. -/
def nE (n : ℕ) : EReal := ((n : ℝ) : EReal)

theorem nE_zero : nE 0 = 0 := by simp [nE]
theorem nE_one : nE 1 = 1 := by simp [nE]
theorem nE_add (a b : ℕ) : nE a + nE b = nE (a + b) := by
  unfold nE; rw [← EReal.coe_add]; push_cast; rfl
theorem nE_mul (a b : ℕ) : nE a * nE b = nE (a * b) := by
  unfold nE; rw [← EReal.coe_mul]; push_cast; rfl
theorem nE_sub (a b c : ℕ) (h : a = b + c) : nE a - nE b = nE c := by
  unfold nE; rw [← EReal.coe_sub, h]; congr 1; push_cast; ring
theorem nE_lt (a b : ℕ) : nE a < nE b ↔ a < b := by
  unfold nE; rw [EReal.coe_lt_coe_iff]; exact Nat.cast_lt
theorem nE_inj (a b : ℕ) : nE a = nE b ↔ a = b := by
  unfold nE; rw [EReal.coe_eq_coe_iff]; exact Nat.cast_inj
theorem nE_max (a b : ℕ) : max (nE a) (nE b) = nE (max a b) := by
  rcases le_total a b with h | h
  · rw [max_eq_right h, max_eq_right]; rw [← not_lt, nE_lt]; omega
  · rw [max_eq_left h, max_eq_left]; rw [← not_lt, nE_lt]; omega
theorem nE_sum {ι : Type} (s : Finset ι) (f : ι → ℕ) : (∑ i ∈ s, nE (f i)) = nE (∑ i ∈ s, f i) := by
  classical
  induction s using Finset.induction_on with
  | empty => simp [nE_zero]
  | insert a s ha ih => rw [Finset.sum_insert ha, Finset.sum_insert ha, ih, nE_add]
theorem nE_corners (A B C D n : ℕ) (h : A + D = n + B + C) : nE A - nE B - nE C + nE D = nE n := by
  unfold nE
  rw [← EReal.coe_sub, ← EReal.coe_sub, ← EReal.coe_add]
  congr 1
  have h' : (A : ℝ) + D = n + B + C := by exact_mod_cast h
  linarith

/-- The first greatest of five, by one pass that keeps the greatest so far. -/
def am (f : Fin 5 → EReal) : ℕ :=
  if max (max (max (f 0) (f 1)) (f 2)) (f 3) < f 4 then 4
  else if max (max (f 0) (f 1)) (f 2) < f 3 then 3
  else if max (f 0) (f 1) < f 2 then 2
  else if f 0 < f 1 then 1 else 0

/-- The pass itself, on numbers. -/
theorem am_scan (f : Fin 5 → EReal) :
    (if max (max (max (f 0) (f 1)) (f 2)) (f 3) < f 4 then nE 4
      else if max (max (f 0) (f 1)) (f 2) < f 3 then nE 3
      else if max (f 0) (f 1) < f 2 then nE 2 else if f 0 < f 1 then (1 : EReal) else 0) = nE (am f) := by
  unfold am; split_ifs <;> simp only [nE_zero, nE_one]

theorem am_lt (f : Fin 5 → EReal) : am f < 5 := by
  unfold am; split_ifs <;> decide

theorem f32_two : Ideal.ofBits .f32 0x40000000#32 = nE 2 := by
  unfold nE; simp [Ideal.ofBits, Ideal.ieee, -EReal.coe_mul]; norm_num
theorem f32_three : Ideal.ofBits .f32 0x40400000#32 = nE 3 := by
  unfold nE; simp [Ideal.ofBits, Ideal.ieee, -EReal.coe_mul]; norm_num
theorem f32_four : Ideal.ofBits .f32 0x40800000#32 = nE 4 := by
  unfold nE; simp [Ideal.ofBits, Ideal.ieee, -EReal.coe_mul]; norm_num
theorem f32_one : Ideal.ofBits .f32 0x3F800000#32 = nE 1 := by
  unfold nE; simp [Ideal.ofBits, Ideal.ieee, -EReal.coe_mul]; norm_num
theorem f32_4096 : Ideal.ofBits .f32 0x45800000#32 = nE 4096 := by
  unfold nE; simp [Ideal.ofBits, Ideal.ieee, -EReal.coe_mul]; norm_num
theorem f32_inv4096 : Ideal.ofBits .f32 0x39800000#32 = ((1 / 4096 : ℝ) : EReal) := by
  simp [Ideal.ofBits, Ideal.ieee, -EReal.coe_mul]; norm_num
theorem bf16_one : Ideal.ofBits .bf16 0x3F80#16 = nE 1 := by
  unfold nE; simp [Ideal.ofBits, Ideal.ieee, -EReal.coe_mul]; norm_num
theorem bf16_two : Ideal.ofBits .bf16 0x4000#16 = nE 2 := by
  unfold nE; simp [Ideal.ofBits, Ideal.ieee, -EReal.coe_mul]; norm_num
theorem bf16_three : Ideal.ofBits .bf16 0x4040#16 = nE 3 := by
  unfold nE; simp [Ideal.ofBits, Ideal.ieee, -EReal.coe_mul]; norm_num
theorem bf16_4096 : Ideal.ofBits .bf16 0x4580#16 = nE 4096 := by
  unfold nE; simp [Ideal.ofBits, Ideal.ieee, -EReal.coe_mul]; norm_num
theorem f32_bot : Ideal.ofBits .f32 0xFF800000#32 = ⊥ := by
  simp [Ideal.ofBits, Ideal.ieee]

/-- Two counts below 4096 packed into one number: the whole part of its 4096th is the high one. -/
theorem floor_pack (a b : ℕ) (h : a < 4096) :
    Ideal.liftRound Int.floor (nE (a + 4096 * b) * ((1 / 4096 : ℝ) : EReal)) = nE b := by
  unfold nE
  rw [← EReal.coe_mul]
  show (((Int.floor (((a + 4096 * b : ℕ) : ℝ) * (1 / 4096)) : ℤ) : ℝ) : EReal) = _
  congr 1
  have : Int.floor (((a + 4096 * b : ℕ) : ℝ) * (1 / 4096)) = (b : ℤ) := by
    rw [Int.floor_eq_iff]
    have ha : (a : ℝ) < 4096 := by exact_mod_cast h
    have ha0 : (0 : ℝ) ≤ a := Nat.cast_nonneg a
    push_cast
    constructor <;> linarith
  rw [this]; simp

/-- The pixels of a class inside a box. -/
def cnt (L : Fin 768 → Fin 768 → ℕ) (Y0 Yf X0 Xf k : ℕ) : ℕ :=
  ∑ y : Fin 768, ∑ x : Fin 768, if (Y0 ≤ y.val ∧ y.val < Yf) ∧ (X0 ≤ x.val ∧ x.val < Xf) ∧ L y x = k then 1 else 0

/-- The pixels of a class above and left of a corner. -/
def pre (L : Fin 768 → Fin 768 → ℕ) (k Y X : ℕ) : ℕ :=
  ∑ y : Fin 768, ∑ x : Fin 768, if y.val < Y ∧ x.val < X ∧ L y x = k then 1 else 0

theorem corners (L : Fin 768 → Fin 768 → ℕ) (Y0 Yf X0 Xf k : ℕ) (hy : Y0 ≤ Yf) (hx : X0 ≤ Xf) :
    pre L k Yf Xf + pre L k Y0 X0 = cnt L Y0 Yf X0 Xf k + pre L k Y0 Xf + pre L k Yf X0 := by
  unfold pre cnt
  simp only [← Finset.sum_add_distrib]
  refine Finset.sum_congr rfl fun y _ => Finset.sum_congr rfl fun x _ => ?_
  by_cases hk : L y x = k
  · simp only [hk, and_true]
    by_cases h1 : y.val < Y0 <;> by_cases h2 : y.val < Yf <;> by_cases h3 : x.val < X0 <;> by_cases h4 : x.val < Xf <;>
      first
      | (exfalso; omega)
      | (simp only [h1, h2, h3, h4, not_lt.mp, Nat.not_le.mpr, true_and, and_true, false_and, and_false, if_true, if_false, Nat.not_lt.mp, le_refl]
         <;> split_ifs <;> omega)
  · simp [hk]

theorem card_ico (a b : ℕ) (hb : b ≤ 768) : (∑ y : Fin 768, if a ≤ y.val ∧ y.val < b then 1 else 0) = b - a := by
  rw [Fin.sum_univ_eq_sum_range (fun n => if a ≤ n ∧ n < b then 1 else 0) 768, ← Finset.card_filter]
  have : (Finset.range 768).filter (fun n => a ≤ n ∧ n < b) = Finset.Ico a b := by
    ext n; simp only [Finset.mem_filter, Finset.mem_range, Finset.mem_Ico]; omega
  rw [this, Nat.card_Ico]

/-- The five counts make up the area. -/
theorem cnt_total (L : Fin 768 → Fin 768 → ℕ) (hL : ∀ y x, L y x < 5) (Y0 Yf X0 Xf : ℕ) (hy : Yf ≤ 768) (hx : Xf ≤ 768) :
    cnt L Y0 Yf X0 Xf 0 + cnt L Y0 Yf X0 Xf 1 + cnt L Y0 Yf X0 Xf 2 + cnt L Y0 Yf X0 Xf 3 + cnt L Y0 Yf X0 Xf 4
      = (Yf - Y0) * (Xf - X0) := by
  rw [← card_ico Y0 Yf hy, ← card_ico X0 Xf hx, Finset.sum_mul_sum]
  unfold cnt
  simp only [← Finset.sum_add_distrib]
  refine Finset.sum_congr rfl fun y _ => Finset.sum_congr rfl fun x _ => ?_
  have h5 := hL y x
  by_cases h1 : Y0 ≤ y.val ∧ y.val < Yf
  · by_cases h2 : X0 ≤ x.val ∧ x.val < Xf
    · simp only [h1, h2, true_and, and_self, if_true]
      generalize L y x = n at h5
      interval_cases n <;> rfl
    · simp [h2]
  · simp [h1]

end Cert.Num
-- ==== Proof.Words.lean ====
module

public import proofs.«01_k».proof.Proof.Num
public import Idealize.ShloMosaic.Lib.Pointwise
public import Idealize.ShloMosaic.Lib.WordCmp

/-! A box's corners as words and as numbers. -/

@[expose] public section

set_option maxRecDepth 16384

noncomputable section

namespace Cert.Num

open Idealize.ShloMosaic

/-- The far edge of a box as a number, moved by one where the box is empty. -/
def far (e s : BitVec 32) : ℕ := if e = s then e.toNat + 1 else e.toNat

/-- The far edge of a box as a word. -/
def farW (e s : BitVec 32) : BitVec 32 := Scalar.select (IntOp.cmpi .eq e s) (IntOp.addi e 1#32) e

/-- A box within the image, of fewer than 4096 pixels. -/
structure Box (x0 y0 x1 y1 : BitVec 32) : Prop where
  hx0 : x0.toNat < 768
  hx : x0.toNat ≤ x1.toNat
  hx1 : x1.toNat ≤ 768
  hy0 : y0.toNat < 768
  hy : y0.toNat ≤ y1.toNat
  hy1 : y1.toNat ≤ 768
  area : (far y1 y0 - y0.toNat) * (far x1 x0 - x0.toNat) < 4096

theorem far_le (e s : BitVec 32) (hs : s.toNat < 768) (he : e.toNat ≤ 768) : far e s ≤ 768 := by
  unfold far; split_ifs with h
  · subst h; omega
  · exact he

theorem lt_far (e s : BitVec 32) (h : s.toNat ≤ e.toNat) : s.toNat < far e s := by
  unfold far; split_ifs with h'
  · subst h'; omega
  · have : s.toNat ≠ e.toNat := fun q => h' (BitVec.eq_of_toNat_eq q.symm)
    omega

theorem farW_toNat (e s : BitVec 32) (he : e.toNat ≤ 768) : (farW e s).toNat = far e s := by
  unfold farW far
  by_cases h : e = s
  · subst h
    rw [show IntOp.cmpi .eq e e = 1#1 by simp [IntOp.cmpi], if_pos rfl]
    show (e + 1#32).toNat = _
    rw [BitVec.toNat_add]; simp; omega
  · rw [show IntOp.cmpi .eq e s = 0#1 by simp only [IntOp.cmpi]; rw [beq_false_of_ne h]; rfl, if_neg h]; rfl

theorem window_bit (s f : BitVec 32) (y : ℕ) (hy : y < 768) (hs : s.toNat ≤ 768) (hf : f.toNat ≤ 768) :
    Scalar.select (IntOp.andi (IntOp.cmpi .sge (BitVec.ofNat 32 y) s) (IntOp.cmpi .slt (BitVec.ofNat 32 y) f)) (1 : EReal) 0
      = nE (if s.toNat ≤ y ∧ y < f.toNat then 1 else 0) := by
  have hyn : (BitVec.ofNat 32 y).toNat = y := by rw [BitVec.toNat_ofNat]; omega
  have h1 : IntOp.cmpi .sge (BitVec.ofNat 32 y) s = BitVec.ofBool (decide (s.toNat ≤ y)) := by
    rw [WordCmp.cmpi_sge_of_lt (by omega) (by omega), hyn]
  have h2 : IntOp.cmpi .slt (BitVec.ofNat 32 y) f = BitVec.ofBool (decide (y < f.toNat)) := by
    rw [WordCmp.cmpi_slt_of_lt (by omega) (by omega), hyn]
  rw [h1, h2]
  by_cases a : s.toNat ≤ y <;> by_cases b : y < f.toNat <;> simp [a, b, IntOp.andi, Scalar.select, nE_one, nE_zero]

theorem toInt_small (w : BitVec 32) (h : w.toNat < 2 ^ 31) : w.toInt = (w.toNat : ℤ) := by
  rw [BitVec.toInt_eq_toNat_cond]; split_ifs <;> omega

theorem area_word (a b c d : BitVec 32) (h1 : b.toNat ≤ a.toNat) (h2 : d.toNat ≤ c.toNat) (ha : a.toNat ≤ 768) (hc : c.toNat ≤ 768) :
    (IntOp.muli (IntOp.subi a b) (IntOp.subi c d)).toNat = (a.toNat - b.toNat) * (c.toNat - d.toNat) := by
  have e1 : (a - b).toNat = a.toNat - b.toNat := by rw [BitVec.toNat_sub]; omega
  have e2 : (c - d).toNat = c.toNat - d.toNat := by rw [BitVec.toNat_sub]; omega
  show ((a - b) * (c - d)).toNat = _
  rw [BitVec.toNat_mul, e1, e2, Nat.mod_eq_of_lt]
  calc (a.toNat - b.toNat) * (c.toNat - d.toNat) ≤ 768 * 768 := Nat.mul_le_mul (by omega) (by omega)
    _ < 2 ^ 32 := by decide

theorem toInt_nE (w : BitVec 32) (n : ℕ) (h : w.toNat = n) (hn : n < 2 ^ 31) : (((w.toInt : ℤ) : ℝ) : EReal) = nE n := by
  rw [toInt_small w (by omega), h]; unfold nE; simp

end Cert.Num
-- ==== Proof.KerVal.lean ====
module

public import proofs.«01_k».proof.Proof.Body
public import proofs.«01_k».proof.Proof.Words
public import Idealize.ShloMosaic.Lib.Pointwise

/-! The kernel's values at an index. -/

@[expose] public section

set_option maxRecDepth 16384

noncomputable section

namespace Cert.KernelIdeal.Body

open Idealize.ShloMosaic
open Cert.KernelIdeal Cert.KernelIdeal.Gen Cert.Num

/-- The label of a pixel is the first class of its greatest score. -/
theorem labOf_at (x0 : Vec Ideal S1x5x768x768 .f32) (y x : Fin 768) :
    labOf x0 (ix2 y x) = nE (am fun k => x0 (ix4 0 k y x)) := by
  unfold labOf
  pointwise [k0_pay7]
  rw [f32_two, f32_three, f32_four]
  exact am_scan fun k => x0 (ix4 0 k y x)

theorem pay16_at (r : FVec Ideal S512x768 .bf16) (c : FVec Ideal S512x768 .f32) (p : FVec Ideal S768x768 .bf16) (i : Fin 512) :
    k0_pay16 r c p (ix2 i 0) = ∑ x : Fin 768, (∑ y : Fin 768, r (ix2 i y) * p (ix2 y x)) * c (ix2 i x) := by
  pointwise [k0_pay16]

theorem pay15_at (l : FVec Ideal S768x768 .bf16) (y x : Fin 768) :
    k0_pay15 (F := Ideal) l (ix2 y x) = (if l (ix2 y x) = 0 then (1 : EReal) else 0) + (if l (ix2 y x) = 1 then nE 4096 else 0) := by
  pointwise [k0_pay15]
  rw [bf16_4096]

theorem pay19_at (r : FVec Ideal S512x768 .bf16) (c : FVec Ideal S512x768 .f32) (l : FVec Ideal S768x768 .bf16) (i : Fin 512) :
    k0_pay19 (F := Ideal) r c l (ix2 i 0) = ∑ x : Fin 768, (∑ y : Fin 768, r (ix2 i y) *
      ((if l (ix2 y x) = nE 2 then (1 : EReal) else 0) + (if l (ix2 y x) = nE 3 then nE 4096 else 0))) * c (ix2 i x) := by
  pointwise [k0_pay19]
  rw [bf16_4096, bf16_two, bf16_three]

theorem pay13_at (x4 : Vec Ideal S1x512x4 .i32) (i : Fin 512) (y : Fin 768)
    (h : Box (x4 (ix3 0 i 0)) (x4 (ix3 0 i 1)) (x4 (ix3 0 i 2)) (x4 (ix3 0 i 3))) :
    k0_pay13 (F := Ideal) x4 (ix2 i y)
      = nE (if (x4 (ix3 0 i 1)).toNat ≤ y.val ∧ y.val < far (x4 (ix3 0 i 3)) (x4 (ix3 0 i 1)) then 1 else 0) := by
  pointwise [k0_pay13, k0_pay10, k0_pay11, k0_pay8]
  rw [← farW_toNat _ _ h.hy1]
  exact window_bit _ (farW (x4 (ix3 0 i 3)) (x4 (ix3 0 i 1))) _ y.isLt (by have := h.hy0; omega) (by rw [farW_toNat _ _ h.hy1]; exact far_le _ _ h.hy0 h.hy1)

theorem pay14_at (x4 : Vec Ideal S1x512x4 .i32) (i : Fin 512) (x : Fin 768)
    (h : Box (x4 (ix3 0 i 0)) (x4 (ix3 0 i 1)) (x4 (ix3 0 i 2)) (x4 (ix3 0 i 3))) :
    k0_pay14 (F := Ideal) x4 (ix2 i x)
      = nE (if (x4 (ix3 0 i 0)).toNat ≤ x.val ∧ x.val < far (x4 (ix3 0 i 2)) (x4 (ix3 0 i 0)) then 1 else 0) := by
  pointwise [k0_pay14, k0_pay9, k0_pay12, k0_pay8]
  rw [← farW_toNat _ _ h.hx1]
  exact window_bit _ (farW (x4 (ix3 0 i 2)) (x4 (ix3 0 i 0))) _ x.isLt (by have := h.hx0; omega) (by rw [farW_toNat _ _ h.hx1]; exact far_le _ _ h.hx0 h.hx1)

/-- Two counts in one number: a sum of products of the two edges' masks and the packed labels. -/
theorem packed_sum (L : Fin 768 → Fin 768 → ℕ) (Y0 Yf X0 Xf k k' : ℕ) (hk : k ≠ k') :
    (∑ x : Fin 768, (∑ y : Fin 768, nE (if Y0 ≤ y.val ∧ y.val < Yf then 1 else 0) *
      ((if nE (L y x) = nE k then (1 : EReal) else 0) + (if nE (L y x) = nE k' then nE 4096 else 0)))
        * nE (if X0 ≤ x.val ∧ x.val < Xf then 1 else 0))
      = nE (cnt L Y0 Yf X0 Xf k + 4096 * cnt L Y0 Yf X0 Xf k') := by
  have e : ∀ y x, ((if nE (L y x) = nE k then (1 : EReal) else 0) + (if nE (L y x) = nE k' then nE 4096 else 0))
      = nE ((if L y x = k then 1 else 0) + 4096 * (if L y x = k' then 1 else 0)) := by
    intro y x
    simp only [nE_inj]
    split_ifs <;> simp only [mul_one, mul_zero, ← nE_add, nE_one, nE_zero]
  simp only [e, nE_mul, nE_sum]
  refine congrArg nE ?_
  unfold cnt
  rw [Finset.mul_sum, ← Finset.sum_add_distrib]
  simp only [Finset.mul_sum, Finset.sum_mul, ← Finset.sum_add_distrib]
  rw [Finset.sum_comm]
  refine Finset.sum_congr rfl fun y _ => Finset.sum_congr rfl fun x _ => ?_
  by_cases a : Y0 ≤ y.val ∧ y.val < Yf <;> by_cases b : X0 ≤ x.val ∧ x.val < Xf <;> simp [a, b]

section box
variable (L : Fin 768 → Fin 768 → ℕ) (hL : ∀ y x, L y x < 5) (lab : FVec Ideal S768x768 .bf16)
  (hlab : ∀ y x, lab (ix2 y x) = nE (L y x)) (x4 : Vec Ideal S1x512x4 .i32) (i : Fin 512)
  (h : Box (x4 (ix3 0 i 0)) (x4 (ix3 0 i 1)) (x4 (ix3 0 i 2)) (x4 (ix3 0 i 3)))

/-- The number of pixels of class `k` in box `i`. -/
def bcnt (k : ℕ) : ℕ :=
  cnt L (x4 (ix3 0 i 1)).toNat (far (x4 (ix3 0 i 3)) (x4 (ix3 0 i 1))) (x4 (ix3 0 i 0)).toNat (far (x4 (ix3 0 i 2)) (x4 (ix3 0 i 0))) k

include hL h in
theorem bcnt_total : bcnt L x4 i 0 + bcnt L x4 i 1 + bcnt L x4 i 2 + bcnt L x4 i 3 + bcnt L x4 i 4
    = (far (x4 (ix3 0 i 3)) (x4 (ix3 0 i 1)) - (x4 (ix3 0 i 1)).toNat) * (far (x4 (ix3 0 i 2)) (x4 (ix3 0 i 0)) - (x4 (ix3 0 i 0)).toNat) :=
  cnt_total L hL _ _ _ _ (far_le _ _ h.hy0 h.hy1) (far_le _ _ h.hx0 h.hx1)

include hlab h in
theorem low_sum : k0_pay16 (F := Ideal) (k0_pay13 x4) (k0_pay14 x4) (k0_pay15 lab) (ix2 i 0)
    = nE (bcnt L x4 i 0 + 4096 * bcnt L x4 i 1) := by
  rw [pay16_at]
  simp only [pay13_at x4 i _ h, pay14_at x4 i _ h, pay15_at, hlab]
  rw [← nE_zero, ← nE_one]
  have := packed_sum L (x4 (ix3 0 i 1)).toNat (far (x4 (ix3 0 i 3)) (x4 (ix3 0 i 1))) (x4 (ix3 0 i 0)).toNat (far (x4 (ix3 0 i 2)) (x4 (ix3 0 i 0))) 0 1 (by decide)
  rw [← nE_zero, ← nE_one] at this
  exact this

include hlab h in
theorem high_sum : k0_pay19 (F := Ideal) (k0_pay13 x4) (k0_pay14 x4) lab (ix2 i 0)
    = nE (bcnt L x4 i 2 + 4096 * bcnt L x4 i 3) := by
  rw [pay19_at]
  simp only [pay13_at x4 i _ h, pay14_at x4 i _ h, hlab]
  exact packed_sum L _ _ _ _ 2 3 (by decide)

include hL hlab h in
theorem pay17_at : k0_pay17 (F := Ideal) (k0_pay13 x4) (k0_pay14 x4) (k0_pay15 lab) (ix2 i 0) = nE (bcnt L x4 i 1) := by
  pointwise [k0_pay17]
  rw [low_sum L lab hlab x4 i h, f32_inv4096]
  refine floor_pack _ _ ?_
  have := bcnt_total L hL x4 i h
  have := h.area
  omega

include hL hlab h in
theorem pay18_at : k0_pay18 (F := Ideal) (k0_pay13 x4) (k0_pay14 x4) (k0_pay15 lab) (ix2 i 0) = nE (bcnt L x4 i 0) := by
  pointwise [k0_pay18]
  rw [low_sum L lab hlab x4 i h, pay17_at L hL lab hlab x4 i h, f32_4096, nE_mul]
  exact nE_sub _ _ _ (by omega)

include hL hlab h in
theorem pay20_at : k0_pay20 (F := Ideal) (k0_pay13 x4) (k0_pay14 x4) lab (ix2 i 0) = nE (bcnt L x4 i 3) := by
  pointwise [k0_pay20]
  rw [high_sum L lab hlab x4 i h, f32_inv4096]
  refine floor_pack _ _ ?_
  have := bcnt_total L hL x4 i h
  have := h.area
  omega

include hL hlab h in
theorem pay21_at : k0_pay21 (F := Ideal) (k0_pay13 x4) (k0_pay14 x4) lab (ix2 i 0) = nE (bcnt L x4 i 2) := by
  pointwise [k0_pay21]
  rw [high_sum L lab hlab x4 i h, pay20_at L hL lab hlab x4 i h, f32_4096, nE_mul]
  exact nE_sub _ _ _ (by omega)

include hL hlab h in
theorem pay22_at : k0_pay22 (F := Ideal) (k0_pay9 x4) (k0_pay10 x4) (k0_pay11 x4) (k0_pay12 x4) (k0_pay13 x4) (k0_pay14 x4)
    (k0_pay15 lab) lab (ix2 i 0) = nE (bcnt L x4 i 4) := by
  pointwise [k0_pay22, k0_pay9, k0_pay10, k0_pay11, k0_pay12, k0_pay8]
  rw [pay17_at L hL lab hlab x4 i h, pay18_at L hL lab hlab x4 i h, pay20_at L hL lab hlab x4 i h, pay21_at L hL lab hlab x4 i h]
  have ht := bcnt_total L hL x4 i h
  have e := area_word (farW (x4 (ix3 0 i 3)) (x4 (ix3 0 i 1))) (x4 (ix3 0 i 1)) (farW (x4 (ix3 0 i 2)) (x4 (ix3 0 i 0))) (x4 (ix3 0 i 0))
    (by rw [farW_toNat _ _ h.hy1]; exact (lt_far _ _ h.hy).le) (by rw [farW_toNat _ _ h.hx1]; exact (lt_far _ _ h.hx).le)
    (by rw [farW_toNat _ _ h.hy1]; exact far_le _ _ h.hy0 h.hy1) (by rw [farW_toNat _ _ h.hx1]; exact far_le _ _ h.hx0 h.hx1)
  rw [farW_toNat _ _ h.hy1, farW_toNat _ _ h.hx1] at e
  have e' := toInt_nE _ _ e (by have := h.area; omega)
  refine Eq.trans (congrArg (fun z => z - nE (bcnt L x4 i 0) - nE (bcnt L x4 i 1) - nE (bcnt L x4 i 2) - nE (bcnt L x4 i 3)) e') ?_
  rw [← ht, nE_sub _ _ (bcnt L x4 i 1 + bcnt L x4 i 2 + bcnt L x4 i 3 + bcnt L x4 i 4) (by omega),
    nE_sub _ _ (bcnt L x4 i 2 + bcnt L x4 i 3 + bcnt L x4 i 4) (by omega), nE_sub _ _ (bcnt L x4 i 3 + bcnt L x4 i 4) (by omega),
    nE_sub _ _ (bcnt L x4 i 4) (by omega)]

include hL hlab h in
/-- The majority label of a box is the first class of the greatest count. -/
theorem majOf_at : majOf lab x4 (ix2 i 0) = nE (am fun k => nE (bcnt L x4 i k.val)) := by
  unfold majOf
  pointwise [k0_pay25, k0_pay24, k0_pay23]
  rw [pay17_at L hL lab hlab x4 i h, pay18_at L hL lab hlab x4 i h, pay20_at L hL lab hlab x4 i h, pay21_at L hL lab hlab x4 i h,
    pay22_at L hL lab hlab x4 i h, f32_two, f32_three, f32_four]
  exact am_scan fun k => nE (bcnt L x4 i k.val)
end box

/-- The logits' row. -/
theorem logits_at (x1 : Vec Ideal S1x512x512 .f32) (x2 : Vec Ideal S5x512 .f32) (x3 : Vec Ideal S5 .f32) (i : Fin 512) (k : Fin 5) :
    logitsOf x1 x2 x3 (ix2 i k) = (∑ d : Fin 512, x1 (ix3 0 i d) * x2 (ix2 k d)) + x3 (ix1 k) := by
  unfold logitsOf
  pointwise [k0_pay26]
  fin_cases k <;> rfl

theorem lse_at (x1 : Vec Ideal S1x512x512 .f32) (x2 : Vec Ideal S5x512 .f32) (x3 : Vec Ideal S5 .f32) (i : Fin 512) :
    lseOf x1 x2 x3 (ix2 i 0) = (Finset.univ.fold max ⊥ fun k : Fin 5 => logitsOf x1 x2 x3 (ix2 i k))
      + Ideal.log (∑ k : Fin 5, Ideal.exp (logitsOf x1 x2 x3 (ix2 i k)
          - Finset.univ.fold max ⊥ fun k : Fin 5 => logitsOf x1 x2 x3 (ix2 i k))) := by
  unfold lseOf logitsOf
  pointwise [k0_pay27]
  rw [f32_bot]

theorem nll_at (x0 : Vec Ideal S1x5x768x768 .f32) (x1 : Vec Ideal S1x512x512 .f32) (x2 : Vec Ideal S5x512 .f32)
    (x3 : Vec Ideal S5 .f32) (x4 : Vec Ideal S1x512x4 .i32) (i : Fin 512) (n : ℕ) (hn : n < 5)
    (hm : majOf (labOf x0) x4 (ix2 i 0) = nE n) :
    nllOf x0 x1 x2 x3 x4 (ix2 i 0) = lseOf x1 x2 x3 (ix2 i 0) - (0 + logitsOf x1 x2 x3 (ix2 i ⟨n, hn⟩)) := by
  unfold nllOf
  pointwise [k0_pay28]
  rw [f32_two, f32_three, f32_four, hm]
  rw [← nE_zero, ← nE_one]
  simp only [nE_inj]
  interval_cases n <;> simp [nE_zero, nE_one]
end Cert.KernelIdeal.Body
-- ==== Proof.KerSum.lean ====
module

public import proofs.«01_k».proof.Proof.Accum
public import proofs.«01_k».proof.Proof.KerVal
public import Idealize.ShloMosaic.Lib.Pointwise

/-! The blocks a grid point reads, and the kernel's two sums as sums over all entries. -/

@[expose] public section

set_option maxRecDepth 16384

noncomputable section

namespace Cert.KernelIdeal.Body

open Idealize.ShloMosaic Idealize.ShloMosaic.TcCoe Idealize.SL.Sem
open Cert.KernelIdeal Cert.KernelIdeal.Gen Cert.Num

variable (m : (ℓ : Loc nD τ sig) → Buf (Elt Ideal) ℓ)

theorem index0 (t : Fin grid0.N) : win0_0.index t 0 = t.val ∧ win0_0.index t 1 = 0 ∧ win0_0.index t 2 = 0 ∧ win0_0.index t 3 = 0 := by
  rcases fin_N0 t with rfl | rfl | rfl | rfl | rfl | rfl | rfl | rfl <;> decide

theorem index1 (t : Fin grid0.N) : win0_1.index t 0 = t.val ∧ win0_1.index t 1 = 0 ∧ win0_1.index t 2 = 0 := by
  rcases fin_N0 t with rfl | rfl | rfl | rfl | rfl | rfl | rfl | rfl <;> decide

theorem index2 (t : Fin grid0.N) : win0_2.index t 0 = 0 ∧ win0_2.index t 1 = 0 := by
  rcases fin_N0 t with rfl | rfl | rfl | rfl | rfl | rfl | rfl | rfl <;> decide

theorem index3 (t : Fin grid0.N) : win0_3.index t 0 = 0 := by
  rcases fin_N0 t with rfl | rfl | rfl | rfl | rfl | rfl | rfl | rfl <;> decide

theorem index4 (t : Fin grid0.N) : win0_4.index t 0 = t.val ∧ win0_4.index t 1 = 0 ∧ win0_4.index t 2 = 0 := by
  rcases fin_N0 t with rfl | rfl | rfl | rfl | rfl | rfl | rfl | rfl <;> decide

theorem index5 (t : Fin grid0.N) : win0_5.index t 0 = 0 ∧ win0_5.index t 1 = 0 := by
  rcases fin_N0 t with rfl | rfl | rfl | rfl | rfl | rfl | rfl | rfl <;> decide

theorem row_off (t : Fin grid0.N) : k0_off1 (grid0.coords t) 0 = t.val ∧ k0_off1 (grid0.coords t) 1 = 0 := by
  rcases fin_N0 t with rfl | rfl | rfl | rfl | rfl | rfl | rfl | rfl <;> decide

theorem blk0 (c : Dev nD) (t : Fin cfg0.N) (b : Fin 8) (hb : t.val = b.val) (k : Fin 5) (y x : Fin 768) :
    (iblk m c 0 t : Vec Ideal S1x5x768x768 .f32) (ix4 0 k y x) = m ((c : Thread nD τ).loc main_arg1) (ix4 b k y x) := by
  have hi := index0 t
  unfold iblk
  rw [View.read_apply]
  show V m c main_arg1 _ = m _ _
  refine congrArg (m ((c : Thread nD τ).loc main_arg1)) (funext fun a => Fin.ext ?_)
  match a with
  | ⟨0, _⟩ => show win0_0.index t 0 * 1 + 1 * 0 = b.val; rw [hi.1]; omega
  | ⟨1, _⟩ => show win0_0.index t 1 * 5 + 1 * k.val = k.val; rw [hi.2.1]; omega
  | ⟨2, _⟩ => show win0_0.index t 2 * 768 + 1 * y.val = y.val; rw [hi.2.2.1]; omega
  | ⟨3, _⟩ => show win0_0.index t 3 * 768 + 1 * x.val = x.val; rw [hi.2.2.2]; omega

theorem blk1 (c : Dev nD) (t : Fin cfg0.N) (b : Fin 8) (hb : t.val = b.val) (i d : Fin 512) :
    (iblk m c 1 t : Vec Ideal S1x512x512 .f32) (ix3 0 i d) = m ((c : Thread nD τ).loc main_arg0) (ix3 b i d) := by
  have hi := index1 t
  unfold iblk
  rw [View.read_apply]
  show V m c main_arg0 _ = m _ _
  refine congrArg (m ((c : Thread nD τ).loc main_arg0)) (funext fun a => Fin.ext ?_)
  match a with
  | ⟨0, _⟩ => show win0_1.index t 0 * 1 + 1 * 0 = b.val; rw [hi.1]; omega
  | ⟨1, _⟩ => show win0_1.index t 1 * 512 + 1 * i.val = i.val; rw [hi.2.1]; omega
  | ⟨2, _⟩ => show win0_1.index t 2 * 512 + 1 * d.val = d.val; rw [hi.2.2]; omega

theorem blk2 (c : Dev nD) (t : Fin cfg0.N) (k : Fin 5) (d : Fin 512) :
    (iblk m c 2 t : Vec Ideal S5x512 .f32) (ix2 k d) = m ((c : Thread nD τ).loc main_arg2) (ix2 k d) := by
  have hi := index2 t
  unfold iblk
  rw [View.read_apply]
  show V m c main_arg2 _ = m _ _
  refine congrArg (m ((c : Thread nD τ).loc main_arg2)) (funext fun a => Fin.ext ?_)
  match a with
  | ⟨0, _⟩ => show win0_2.index t 0 * 5 + 1 * k.val = k.val; rw [hi.1]; omega
  | ⟨1, _⟩ => show win0_2.index t 1 * 512 + 1 * d.val = d.val; rw [hi.2]; omega

theorem blk3 (c : Dev nD) (t : Fin cfg0.N) (k : Fin 5) :
    (iblk m c 3 t : Vec Ideal S5 .f32) (ix1 k) = m ((c : Thread nD τ).loc main_arg3) (ix1 k) := by
  have hi := index3 t
  unfold iblk
  rw [View.read_apply]
  show V m c main_arg3 _ = m _ _
  refine congrArg (m ((c : Thread nD τ).loc main_arg3)) (funext fun a => Fin.ext ?_)
  match a with
  | ⟨0, _⟩ => show win0_3.index t 0 * 5 + 1 * k.val = k.val; rw [hi]; omega

theorem blk4 (c : Dev nD) (t : Fin cfg0.N) (b : Fin 8) (hb : t.val = b.val) (i : Fin 512) (d : Fin 4) :
    (iblk m c 4 t : Vec Ideal S1x512x4 .i32) (ix3 0 i d) = m ((c : Thread nD τ).loc main_arg4) (ix3 b i d) := by
  have hi := index4 t
  unfold iblk
  rw [View.read_apply]
  show V m c main_arg4 _ = m _ _
  refine congrArg (m ((c : Thread nD τ).loc main_arg4)) (funext fun a => Fin.ext ?_)
  match a with
  | ⟨0, _⟩ => show win0_4.index t 0 * 1 + 1 * 0 = b.val; rw [hi.1]; omega
  | ⟨1, _⟩ => show win0_4.index t 1 * 512 + 1 * i.val = i.val; rw [hi.2.1]; omega
  | ⟨2, _⟩ => show win0_4.index t 2 * 4 + 1 * d.val = d.val; rw [hi.2.2]; omega

theorem row5 (c : Dev nD) (t : Fin cfg0.N) (b : Fin 8) (hb : t.val = b.val) (i : Fin 512) :
    mrowOf (grid0.coords t) (iblk m c 5 t) (ix2 0 i) = m ((c : Thread nD τ).loc main_arg5) (ix2 b i) := by
  have hi := index5 t
  have ho := row_off t
  unfold mrowOf iblk
  show V m c main_arg5 _ = m _ _
  refine congrArg (m ((c : Thread nD τ).loc main_arg5)) (funext fun a => Fin.ext ?_)
  match a with
  | ⟨0, _⟩ => show win0_5.index t 0 * 8 + 1 * (k0_off1 (grid0.coords t) 0 + 1 * 0) = b.val; rw [hi.1, ho.1]; omega
  | ⟨1, _⟩ => show win0_5.index t 1 * 512 + 1 * (k0_off1 (grid0.coords t) 1 + 1 * i.val) = i.val; rw [hi.2, ho.2]; omega

theorem pay2_at : (k0_pay2 (F := Ideal) (ix2 0 0) : EReal) = 0 := by
  pointwise [k0_pay2]

theorem pay3_at : (k0_pay3 (F := Ideal) (ix2 0 0) : EReal) = 0 := by
  pointwise [k0_pay3]

theorem pay4_at (v : FVec Ideal S512x1 .f32) (w : Vec Ideal S1x512 .i32) (z : Vec Ideal S1x1 .f32) :
    (k0_pay4 v w z (ix2 0 0) : EReal) = z (ix2 0 0) + ∑ i : Fin 512, (((w (ix2 0 i)).toInt : ℝ) : EReal) * v (ix2 i 0) := by
  pointwise [k0_pay4, k0_pay1]
  rfl

theorem pay5_at (w : Vec Ideal S1x512 .i32) (z : Vec Ideal S1x1 .f32) :
    (k0_pay5 w z (ix2 0 0) : EReal) = z (ix2 0 0) + ∑ i : Fin 512, (((w (ix2 0 i)).toInt : ℝ) : EReal) := by
  pointwise [k0_pay5, k0_pay1]
  rfl

theorem pay6_at (z w : Vec Ideal S1x1 .f32) : (k0_pay6 z w (ix3 0 0 0) : EReal) = Ideal.div (z (ix2 0 0)) (w (ix2 0 0)) := by
  pointwise [k0_pay6]

end Cert.KernelIdeal.Body
-- ==== Proof.RefRun.lean ====
module

public import proofs.«01_k».proof.Defs
public import proofs.«01_k».proof.Proof.Gen.ReferenceIdeal
public import Idealize.ShloMosaic.PureOps.Ideal
public import Idealize.ShloMosaic.Adequacy
public import Idealize.ShloMosaic.Init
public import Idealize.ShloMosaic.Lib.Claim
public import Idealize.ShloMosaic.Lib.StableHlo.RunRead

/-! The reference's run: its operations in order, and the contents they leave. -/

@[expose] public section

set_option maxRecDepth 65536

noncomputable section

namespace Cert.ReferenceIdeal.Run

open Idealize.ShloMosaic Idealize.SL.Sem Idealize.ShloMosaic.StableHlo
open Cert.ReferenceIdeal

instance : Cert.ReferenceIdeal.Facts := Cert.ReferenceIdeal.Gen.facts

set_option maxHeartbeats 4000000 in
/-- The reference's operations, in order, with the fact that they are its program. -/
def opsW : { ops : List (HloOp τ sig (Elt Ideal)) // ∀ d, IsSeq (main (F := Ideal) d) ops } := by
  apply Subtype.mk
  hlo_seq

set_option maxHeartbeats 4000000 in
theorem ops_sub : opsW.1.Forall fun op => op.bufs ⊆ tcRefs τ sig := by
  unfold opsW
  simp

set_option maxHeartbeats 4000000 in
theorem ops_fresh : ∀ op ∈ opsW.1, op.fresh = ∅ := by
  unfold opsW
  intro _ h; (repeat (cases h with | head => rfl | tail _ h => ?_)); exact nomatch h

theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = after opsW.1 (launchContents m d) (Proc.devRef .tc b) :=
  run_hlo _ _ opsW.2 (by decide) (by decide) ops_sub ops_fresh m ρ

end Cert.ReferenceIdeal.Run
end
-- ==== Proof.RefStages.lean ====
module

public import proofs.«01_k».proof.Proof.RefRun
public import Idealize.ShloMosaic.Lib.Pointwise

/-! The reference's operations cut into stages: what each stage leaves in the buffers later stages read. -/

@[expose] public section

set_option maxRecDepth 65536

noncomputable section

namespace Cert.ReferenceIdeal.Run

open Idealize.ShloMosaic Idealize.SL.Sem Idealize.ShloMosaic.StableHlo
open Cert.ReferenceIdeal Cert.ReferenceIdeal.Facts₀ Cert.ReferenceIdeal.Facts

/-- The class scores: features times weights plus bias. -/
def logitsR (a0 : FVec Ideal S8x512x512 .f32) (a2 : FVec Ideal S5x512 .f32) (a3 : FVec Ideal S5 .f32) :
    FVec Ideal S8x512x5 .f32 :=
  addf (Host.dotGeneral (F := Ideal) dot_S8x512x512_S5x512_S8x512x5_2_1_01_0_n_n none a0 a2)
    (broadcastInDim S8x512x5 ![0, 1, 2] bcast_S1x1x5_S8x512x5_0_1_2 (broadcastInDim S1x1x5 ![2] bcast_S5_S1x1x5_2 a3))

/-- The label of each pixel: the first class of the greatest score. -/
def labR (a1 : FVec Ideal S8x5x768x768 .f32) : IVec S8x768x768 32 :=
  fun j => (Host.argReduce reducer_argmax_f32_i32 a1 (iotaInDim S8x5x768x768 32 1) (constant (F := Ideal) S_ .f32 0xFF800000#32)
    (constantI S_ 32 0#32) reducesTo_S8x5x768x768_S8x768x768_d1 h_S_ j).2

/-- The labels as five planes of zeros and ones. -/
def onehotR (lab : IVec S8x768x768 32) : FVec Ideal S8x768x768x5 .f32 :=
  uitofp .f32 (cmpi .eq
    (broadcastInDim S8x768x768x5 ![0, 1, 2, 3] bcast_S8x768x768x1_S8x768x768x5_0_1_2_3
      (broadcastInDim S8x768x768x1 ![0, 1, 2] bcast_S8x768x768_S8x768x768x1_0_1_2 lab))
    (broadcastInDim S8x768x768x5 ![0, 1, 2, 3] bcast_S1x1x1x5_S8x768x768x5_0_1_2_3 (iotaInDim S1x1x1x5 32 3)))

/-- The running sum down the rows. -/
def cumR (x : FVec Ideal S8x768x768x5 .f32) : FVec Ideal S8x768x768x5 .f32 :=
  Host.reduceWindowAdd ![1, 768, 1, 1] ![1, 1, 1, 1] ![0, 767, 0, 0] ![0, 0, 0, 0] x
    (broadcastInDim S_ ![] bcast_S_S_ (constant (F := Ideal) S_ .f32 0x00000000#32))
    reduceWindows_S8x768x768x5_S8x768x768x5_w1s1p0_0_w768s1p767_0_w1s1p0_0_w1s1p0_0 h_S_

/-- The running sum along the columns. -/
def cumC (x : FVec Ideal S8x768x768x5 .f32) : FVec Ideal S8x768x768x5 .f32 :=
  Host.reduceWindowAdd ![1, 1, 768, 1] ![1, 1, 1, 1] ![0, 0, 767, 0] ![0, 0, 0, 0] x
    (broadcastInDim S_ ![] bcast_S_S_ (constant (F := Ideal) S_ .f32 0x00000000#32))
    reduceWindows_S8x768x768x5_S8x768x768x5_w1s1p0_0_w1s1p0_0_w768s1p767_0_w1s1p0_0 h_S_

/-- The integral image: both running sums, with a row and a column of zeros in front. -/
def iiR (x : FVec Ideal S8x768x768x5 .f32) : FVec Ideal S8x769x769x5 .f32 :=
  pad S8x769x769x5 ![0, 1, 1, 0] ![0, 0, 0, 0] ![0, 0, 0, 0] (cumC (cumR x)) (sitofp (F := Ideal) .f32 (constantI S_ 32 0#32))
    pads_S8x768x768x5_S8x769x769x5_000_100_100_000 h_S_

/-- A box's left edge. -/
def x0R (a4 : IVec S8x512x4 32) : IVec S8x512 32 :=
  shapeCast S8x512 (extractStridedSlice S8x512x1 ![0, 0, 0] a4 slices_S8x512x4_S8x512x1_0_0_0) shapeCasts_S8x512x1_S8x512
/-- A box's upper edge. -/
def y0R (a4 : IVec S8x512x4 32) : IVec S8x512 32 :=
  shapeCast S8x512 (extractStridedSlice S8x512x1 ![0, 0, 1] a4 slices_S8x512x4_S8x512x1_0_0_1) shapeCasts_S8x512x1_S8x512
/-- A box's right edge, as given. -/
def x1R (a4 : IVec S8x512x4 32) : IVec S8x512 32 :=
  shapeCast S8x512 (extractStridedSlice S8x512x1 ![0, 0, 2] a4 slices_S8x512x4_S8x512x1_0_0_2) shapeCasts_S8x512x1_S8x512
/-- A box's lower edge, as given. -/
def y1R (a4 : IVec S8x512x4 32) : IVec S8x512 32 :=
  shapeCast S8x512 (extractStridedSlice S8x512x1 ![0, 0, 3] a4 slices_S8x512x4_S8x512x1_0_0_3) shapeCasts_S8x512x1_S8x512

/-- The far edge of a box, moved by one where the box is empty. -/
def farR (e s : IVec S8x512 32) : IVec S8x512 32 :=
  select (cmpi .eq e s) (addi e (broadcastInDim S8x512 ![] bcast_S_S8x512 (constantI S_ 32 1#32))) e

/-- The image's number, as a column. -/
def imgR : IVec S8x1 32 := broadcastInDim S8x1 ![0] bcast_S8_S8x1_0 (iotaInDim S8 32 0)

/-- The image's number, with negative numbers counted from the end. -/
def wrapB (b : IVec S8x1 32) : IVec S8x1 32 :=
  select (cmpi .slt b (broadcastInDim S8x1 ![] bcast_S_S8x1 (constantI S_ 32 0#32)))
    (addi b (broadcastInDim S8x1 ![] bcast_S_S8x1 (constantI S_ 32 8#32))) b

/-- A coordinate, with negative ones counted from the end. -/
def wrapE (e : IVec S8x512 32) : IVec S8x512 32 :=
  select (cmpi .slt e (broadcastInDim S8x512 ![] bcast_S_S8x512 (constantI S_ 32 0#32)))
    (addi e (broadcastInDim S8x512 ![] bcast_S_S8x512 (constantI S_ 32 769#32))) e

/-- The image's number over the boxes, as one lane. -/
def colB (b : IVec S8x1 32) : IVec S8x512x1 32 :=
  broadcastInDim S8x512x1 ![0, 1] bcast_S8x512_S8x512x1_0_1 (broadcastInDim S8x512 ![0, 1] bcast_S8x1_S8x512_0_1 (wrapB b))

/-- A coordinate of the boxes, as one lane. -/
def colE (e : IVec S8x512 32) : IVec S8x512x1 32 :=
  broadcastInDim S8x512x1 ![0, 1] bcast_S8x512_S8x512x1_0_1 (wrapE e)

/-- The integral image read at image, row and column. -/
def cornerR (ii : FVec Ideal S8x769x769x5 .f32) (b y x : IVec S8x512x1 32) : FVec Ideal S8x512x5 .f32 :=
  Host.gather gather_S8x769x769x5_S8x512x3_S8x512x5_2_012_n_n_012_2_1115 ii
    (concatenate S8x512x3 2 [⟨S8x512x1, b⟩, ⟨S8x512x1, y⟩, ⟨S8x512x1, x⟩]
      concatenates_S8x512x1_S8x512x1_S8x512x1_S8x512x3_d2)

/-- The majority class of each box. -/
def majR (cnt : FVec Ideal S8x512x5 .f32) : IVec S8x512 32 :=
  fun j => (Host.argReduce reducer_argmax_f32_i32 cnt (iotaInDim S8x512x5 32 2) (constant (F := Ideal) S_ .f32 0xFF800000#32)
    (constantI S_ 32 0#32) reducesTo_S8x512x5_S8x512_d2 h_S_ j).2

/-- The scores less their greatest. -/
def shiftR (l : FVec Ideal S8x512x5 .f32) : FVec Ideal S8x512x5 .f32 :=
  subf l (broadcastInDim S8x512x5 ![0, 1, 2] bcast_S8x512x1_S8x512x5_0_1_2
    (broadcastInDim S8x512x1 ![0, 1] bcast_S8x512_S8x512x1_0_1
      (maximumf (broadcastInDim S8x512 ![] bcast_S_S8x512 (constant (F := Ideal) S_ .f32 0xFF800000#32))
        (Host.reduce FloatOps.maximumf l (constant (F := Ideal) S_ .f32 0xFF800000#32) reducesTo_S8x512x5_S8x512_d2 h_S_))))

/-- The log of the softmax. -/
def lsmR (l : FVec Ideal S8x512x5 .f32) : FVec Ideal S8x512x5 .f32 :=
  subf (shiftR l) (broadcastInDim S8x512x5 ![0, 1, 2] bcast_S8x512x1_S8x512x5_0_1_2
    (Host.log (broadcastInDim S8x512x1 ![0, 1] bcast_S8x512_S8x512x1_0_1
      (Host.reduceAdd (Host.exp (shiftR l)) (constant (F := Ideal) S_ .f32 0x00000000#32) reducesTo_S8x512x5_S8x512_d2 h_S_))))

/-- The majority class as an index into the classes. -/
def pickR (maj : IVec S8x512 32) : IVec S8x512x1x1 32 :=
  shapeCast S8x512x1x1
    (select (cmpi .slt (broadcastInDim S8x512x1 ![0, 1] bcast_S8x512_S8x512x1_0_1 maj)
        (broadcastInDim S8x512x1 ![] bcast_S_S8x512x1 (constantI S_ 32 0#32)))
      (addi (broadcastInDim S8x512x1 ![0, 1] bcast_S8x512_S8x512x1_0_1 maj)
        (broadcastInDim S8x512x1 ![] bcast_S_S8x512x1 (constantI S_ 32 5#32)))
      (broadcastInDim S8x512x1 ![0, 1] bcast_S8x512_S8x512x1_0_1 maj)) shapeCasts_S8x512x1_S8x512x1x1

/-- Whether the index lies among the classes. -/
def insideR (p : IVec S8x512x1x1 32) : IVec S8x512x1 1 :=
  Host.reduce IntOp.andi
    (andi (cmpi .sge p (broadcastInDim S8x512x1x1 ![] bcast_S_S8x512x1x1 (constantI S_ 32 0#32)))
      (cmpi .sle p (broadcastInDim S8x512x1x1 ![0, 1, 2, 3] bcast_S1x1x1x1_S8x512x1x1_0_1_2_3
        (broadcastInDim S1x1x1x1 ![3] bcast_S1_S1x1x1x1_3 (constantI S1 32 4#32)))))
    (constantI S_ 1 1#1) reducesTo_S8x512x1x1_S8x512x1_d3 h_S_

/-- The cross entropy at the majority class. -/
def nllR (lsm : FVec Ideal S8x512x5 .f32) (maj : IVec S8x512 32) : FVec Ideal S8x512 .f32 :=
  Host.negf (shapeCast S8x512
    (select (insideR (pickR maj))
      (Host.gather gather_S8x512x5_S8x512x1x1_S8x512x1_n_2_01_01_2_3_111 lsm (pickR maj))
      (broadcastInDim S8x512x1 ![] bcast_S_S8x512x1 (constant (F := Ideal) S_ .f32 0x7FC00000#32))) shapeCasts_S8x512x1_S8x512)

/-- The mask as zeros and ones. -/
def maskR (a5 : IVec S8x512 32) : FVec Ideal S8x512 .f32 :=
  uitofp .f32 (cmpi .eq a5 (broadcastInDim S8x512 ![] bcast_S_S8x512 (constantI S_ 32 1#32)))

/-- The masked mean. -/
def meanR (nll : FVec Ideal S8x512 .f32) (a5 : IVec S8x512 32) : FVec Ideal S_ .f32 :=
  Host.divf (Host.reduceAdd (mulf nll (maskR a5)) (constant (F := Ideal) S_ .f32 0x00000000#32) reducesTo_S8x512_S_d0_1 h_S_)
    (Host.reduceAdd (maskR a5) (constant (F := Ideal) S_ .f32 0x00000000#32) reducesTo_S8x512_S_d0_1 h_S_)

/-- The `n` operations from position `a` on. -/
def chunk (a n : Nat) : List (HloOp τ sig (Elt Ideal)) := (opsW.1.drop a).take n

set_option maxHeartbeats 4000000 in
theorem at1 (W : Valuation τ sig (Elt Ideal)) :
    after (chunk 0 4) W (Proc.devRef .tc main_v3)
      = logitsR (W (Proc.devRef .tc main_arg0)) (W (Proc.devRef .tc main_arg2)) (W (Proc.devRef .tc main_arg3)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep1_arg0 (W : Valuation τ sig (Elt Ideal)) :
    after (chunk 0 4) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep1_arg1 (W : Valuation τ sig (Elt Ideal)) :
    after (chunk 0 4) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep1_arg2 (W : Valuation τ sig (Elt Ideal)) :
    after (chunk 0 4) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep1_arg3 (W : Valuation τ sig (Elt Ideal)) :
    after (chunk 0 4) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep1_arg4 (W : Valuation τ sig (Elt Ideal)) :
    after (chunk 0 4) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep1_arg5 (W : Valuation τ sig (Elt Ideal)) :
    after (chunk 0 4) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at2 (W : Valuation τ sig (Elt Ideal)) :
    after (chunk 4 11) W (Proc.devRef .tc main_v5)
      = onehotR (labR (W (Proc.devRef .tc main_arg1))) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep2_v3 (W : Valuation τ sig (Elt Ideal)) :
    after (chunk 4 11) W (Proc.devRef .tc main_v3) = W (Proc.devRef .tc main_v3) := by
  unfold chunk opsW
  simp only [List.drop_succ_cons, List.drop_zero, List.take_succ_cons, List.take_zero]
  after_reads_simp

set_option maxHeartbeats 4000000 in
theorem keep2_arg0 (W : Valuation τ sig (Elt Ideal)) :
    after (chunk 4 11) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep2_arg1 (W : Valuation τ sig (Elt Ideal)) :
    after (chunk 4 11) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep2_arg2 (W : Valuation τ sig (Elt Ideal)) :
    after (chunk 4 11) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep2_arg3 (W : Valuation τ sig (Elt Ideal)) :
    after (chunk 4 11) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep2_arg4 (W : Valuation τ sig (Elt Ideal)) :
    after (chunk 4 11) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep2_arg5 (W : Valuation τ sig (Elt Ideal)) :
    after (chunk 4 11) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at3 (W : Valuation τ sig (Elt Ideal)) :
    after (chunk 15 9) W (Proc.devRef .tc main_v8)
      = iiR (W (Proc.devRef .tc main_v5)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep3_v3 (W : Valuation τ sig (Elt Ideal)) :
    after (chunk 15 9) W (Proc.devRef .tc main_v3) = W (Proc.devRef .tc main_v3) := by
  unfold chunk opsW
  simp only [List.drop_succ_cons, List.drop_zero, List.take_succ_cons, List.take_zero]
  after_reads_simp

set_option maxHeartbeats 4000000 in
theorem keep3_arg0 (W : Valuation τ sig (Elt Ideal)) :
    after (chunk 15 9) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep3_arg1 (W : Valuation τ sig (Elt Ideal)) :
    after (chunk 15 9) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep3_arg2 (W : Valuation τ sig (Elt Ideal)) :
    after (chunk 15 9) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep3_arg3 (W : Valuation τ sig (Elt Ideal)) :
    after (chunk 15 9) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep3_arg4 (W : Valuation τ sig (Elt Ideal)) :
    after (chunk 15 9) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep3_arg5 (W : Valuation τ sig (Elt Ideal)) :
    after (chunk 15 9) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at4_v10 (W : Valuation τ sig (Elt Ideal)) :
    after (chunk 24 20) W (Proc.devRef .tc main_v10)
      = x0R (W (Proc.devRef .tc main_arg4)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at4_v12 (W : Valuation τ sig (Elt Ideal)) :
    after (chunk 24 20) W (Proc.devRef .tc main_v12)
      = y0R (W (Proc.devRef .tc main_arg4)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at4_v20 (W : Valuation τ sig (Elt Ideal)) :
    after (chunk 24 20) W (Proc.devRef .tc main_v20)
      = farR (y1R (W (Proc.devRef .tc main_arg4))) (y0R (W (Proc.devRef .tc main_arg4))) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at4_v24 (W : Valuation τ sig (Elt Ideal)) :
    after (chunk 24 20) W (Proc.devRef .tc main_v24)
      = farR (x1R (W (Proc.devRef .tc main_arg4))) (x0R (W (Proc.devRef .tc main_arg4))) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at4_v26 (W : Valuation τ sig (Elt Ideal)) :
    after (chunk 24 20) W (Proc.devRef .tc main_v26)
      = imgR := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep4_v3 (W : Valuation τ sig (Elt Ideal)) :
    after (chunk 24 20) W (Proc.devRef .tc main_v3) = W (Proc.devRef .tc main_v3) := by
  unfold chunk opsW
  simp only [List.drop_succ_cons, List.drop_zero, List.take_succ_cons, List.take_zero]
  after_reads_simp

set_option maxHeartbeats 4000000 in
theorem keep4_v8 (W : Valuation τ sig (Elt Ideal)) :
    after (chunk 24 20) W (Proc.devRef .tc main_v8) = W (Proc.devRef .tc main_v8) := by
  unfold chunk opsW
  simp only [List.drop_succ_cons, List.drop_zero, List.take_succ_cons, List.take_zero]
  after_reads_simp

set_option maxHeartbeats 4000000 in
theorem keep4_arg0 (W : Valuation τ sig (Elt Ideal)) :
    after (chunk 24 20) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep4_arg1 (W : Valuation τ sig (Elt Ideal)) :
    after (chunk 24 20) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep4_arg2 (W : Valuation τ sig (Elt Ideal)) :
    after (chunk 24 20) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep4_arg3 (W : Valuation τ sig (Elt Ideal)) :
    after (chunk 24 20) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep4_arg4 (W : Valuation τ sig (Elt Ideal)) :
    after (chunk 24 20) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep4_arg5 (W : Valuation τ sig (Elt Ideal)) :
    after (chunk 24 20) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at5_v43 (W : Valuation τ sig (Elt Ideal)) :
    after (chunk 44 25) W (Proc.devRef .tc main_v43)
      = colB (W (Proc.devRef .tc main_v26)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at5_v44 (W : Valuation τ sig (Elt Ideal)) :
    after (chunk 44 25) W (Proc.devRef .tc main_v44)
      = colE (W (Proc.devRef .tc main_v20)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at5_v45 (W : Valuation τ sig (Elt Ideal)) :
    after (chunk 44 25) W (Proc.devRef .tc main_v45)
      = colE (W (Proc.devRef .tc main_v24)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep5_v3 (W : Valuation τ sig (Elt Ideal)) :
    after (chunk 44 25) W (Proc.devRef .tc main_v3) = W (Proc.devRef .tc main_v3) := by
  unfold chunk opsW
  simp only [List.drop_succ_cons, List.drop_zero, List.take_succ_cons, List.take_zero]
  after_reads_simp

set_option maxHeartbeats 4000000 in
theorem keep5_v8 (W : Valuation τ sig (Elt Ideal)) :
    after (chunk 44 25) W (Proc.devRef .tc main_v8) = W (Proc.devRef .tc main_v8) := by
  unfold chunk opsW
  simp only [List.drop_succ_cons, List.drop_zero, List.take_succ_cons, List.take_zero]
  after_reads_simp

set_option maxHeartbeats 4000000 in
theorem keep5_v10 (W : Valuation τ sig (Elt Ideal)) :
    after (chunk 44 25) W (Proc.devRef .tc main_v10) = W (Proc.devRef .tc main_v10) := by
  unfold chunk opsW
  simp only [List.drop_succ_cons, List.drop_zero, List.take_succ_cons, List.take_zero]
  after_reads_simp

set_option maxHeartbeats 4000000 in
theorem keep5_v12 (W : Valuation τ sig (Elt Ideal)) :
    after (chunk 44 25) W (Proc.devRef .tc main_v12) = W (Proc.devRef .tc main_v12) := by
  unfold chunk opsW
  simp only [List.drop_succ_cons, List.drop_zero, List.take_succ_cons, List.take_zero]
  after_reads_simp

set_option maxHeartbeats 4000000 in
theorem keep5_v20 (W : Valuation τ sig (Elt Ideal)) :
    after (chunk 44 25) W (Proc.devRef .tc main_v20) = W (Proc.devRef .tc main_v20) := by
  unfold chunk opsW
  simp only [List.drop_succ_cons, List.drop_zero, List.take_succ_cons, List.take_zero]
  after_reads_simp

set_option maxHeartbeats 4000000 in
theorem keep5_v24 (W : Valuation τ sig (Elt Ideal)) :
    after (chunk 44 25) W (Proc.devRef .tc main_v24) = W (Proc.devRef .tc main_v24) := by
  unfold chunk opsW
  simp only [List.drop_succ_cons, List.drop_zero, List.take_succ_cons, List.take_zero]
  after_reads_simp

set_option maxHeartbeats 4000000 in
theorem keep5_v26 (W : Valuation τ sig (Elt Ideal)) :
    after (chunk 44 25) W (Proc.devRef .tc main_v26) = W (Proc.devRef .tc main_v26) := by
  unfold chunk opsW
  simp only [List.drop_succ_cons, List.drop_zero, List.take_succ_cons, List.take_zero]
  after_reads_simp

set_option maxHeartbeats 4000000 in
theorem keep5_arg0 (W : Valuation τ sig (Elt Ideal)) :
    after (chunk 44 25) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep5_arg1 (W : Valuation τ sig (Elt Ideal)) :
    after (chunk 44 25) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep5_arg2 (W : Valuation τ sig (Elt Ideal)) :
    after (chunk 44 25) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep5_arg3 (W : Valuation τ sig (Elt Ideal)) :
    after (chunk 44 25) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep5_arg4 (W : Valuation τ sig (Elt Ideal)) :
    after (chunk 44 25) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep5_arg5 (W : Valuation τ sig (Elt Ideal)) :
    after (chunk 44 25) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at6 (W : Valuation τ sig (Elt Ideal)) :
    after (chunk 69 2) W (Proc.devRef .tc main_v47)
      = cornerR (W (Proc.devRef .tc main_v8)) (W (Proc.devRef .tc main_v43)) (W (Proc.devRef .tc main_v44)) (W (Proc.devRef .tc main_v45)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep6_v3 (W : Valuation τ sig (Elt Ideal)) :
    after (chunk 69 2) W (Proc.devRef .tc main_v3) = W (Proc.devRef .tc main_v3) := by
  unfold chunk opsW
  simp only [List.drop_succ_cons, List.drop_zero, List.take_succ_cons, List.take_zero]
  after_reads_simp

set_option maxHeartbeats 4000000 in
theorem keep6_v8 (W : Valuation τ sig (Elt Ideal)) :
    after (chunk 69 2) W (Proc.devRef .tc main_v8) = W (Proc.devRef .tc main_v8) := by
  unfold chunk opsW
  simp only [List.drop_succ_cons, List.drop_zero, List.take_succ_cons, List.take_zero]
  after_reads_simp

set_option maxHeartbeats 4000000 in
theorem keep6_v10 (W : Valuation τ sig (Elt Ideal)) :
    after (chunk 69 2) W (Proc.devRef .tc main_v10) = W (Proc.devRef .tc main_v10) := by
  unfold chunk opsW
  simp only [List.drop_succ_cons, List.drop_zero, List.take_succ_cons, List.take_zero]
  after_reads_simp

set_option maxHeartbeats 4000000 in
theorem keep6_v12 (W : Valuation τ sig (Elt Ideal)) :
    after (chunk 69 2) W (Proc.devRef .tc main_v12) = W (Proc.devRef .tc main_v12) := by
  unfold chunk opsW
  simp only [List.drop_succ_cons, List.drop_zero, List.take_succ_cons, List.take_zero]
  after_reads_simp

set_option maxHeartbeats 4000000 in
theorem keep6_v20 (W : Valuation τ sig (Elt Ideal)) :
    after (chunk 69 2) W (Proc.devRef .tc main_v20) = W (Proc.devRef .tc main_v20) := by
  unfold chunk opsW
  simp only [List.drop_succ_cons, List.drop_zero, List.take_succ_cons, List.take_zero]
  after_reads_simp

set_option maxHeartbeats 4000000 in
theorem keep6_v24 (W : Valuation τ sig (Elt Ideal)) :
    after (chunk 69 2) W (Proc.devRef .tc main_v24) = W (Proc.devRef .tc main_v24) := by
  unfold chunk opsW
  simp only [List.drop_succ_cons, List.drop_zero, List.take_succ_cons, List.take_zero]
  after_reads_simp

set_option maxHeartbeats 4000000 in
theorem keep6_v26 (W : Valuation τ sig (Elt Ideal)) :
    after (chunk 69 2) W (Proc.devRef .tc main_v26) = W (Proc.devRef .tc main_v26) := by
  unfold chunk opsW
  simp only [List.drop_succ_cons, List.drop_zero, List.take_succ_cons, List.take_zero]
  after_reads_simp

set_option maxHeartbeats 4000000 in
theorem keep6_arg0 (W : Valuation τ sig (Elt Ideal)) :
    after (chunk 69 2) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep6_arg1 (W : Valuation τ sig (Elt Ideal)) :
    after (chunk 69 2) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep6_arg2 (W : Valuation τ sig (Elt Ideal)) :
    after (chunk 69 2) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep6_arg3 (W : Valuation τ sig (Elt Ideal)) :
    after (chunk 69 2) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep6_arg4 (W : Valuation τ sig (Elt Ideal)) :
    after (chunk 69 2) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep6_arg5 (W : Valuation τ sig (Elt Ideal)) :
    after (chunk 69 2) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at7_v64 (W : Valuation τ sig (Elt Ideal)) :
    after (chunk 71 25) W (Proc.devRef .tc main_v64)
      = colB (W (Proc.devRef .tc main_v26)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at7_v65 (W : Valuation τ sig (Elt Ideal)) :
    after (chunk 71 25) W (Proc.devRef .tc main_v65)
      = colE (W (Proc.devRef .tc main_v12)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at7_v66 (W : Valuation τ sig (Elt Ideal)) :
    after (chunk 71 25) W (Proc.devRef .tc main_v66)
      = colE (W (Proc.devRef .tc main_v24)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep7_v3 (W : Valuation τ sig (Elt Ideal)) :
    after (chunk 71 25) W (Proc.devRef .tc main_v3) = W (Proc.devRef .tc main_v3) := by
  unfold chunk opsW
  simp only [List.drop_succ_cons, List.drop_zero, List.take_succ_cons, List.take_zero]
  after_reads_simp

set_option maxHeartbeats 4000000 in
theorem keep7_v8 (W : Valuation τ sig (Elt Ideal)) :
    after (chunk 71 25) W (Proc.devRef .tc main_v8) = W (Proc.devRef .tc main_v8) := by
  unfold chunk opsW
  simp only [List.drop_succ_cons, List.drop_zero, List.take_succ_cons, List.take_zero]
  after_reads_simp

set_option maxHeartbeats 4000000 in
theorem keep7_v10 (W : Valuation τ sig (Elt Ideal)) :
    after (chunk 71 25) W (Proc.devRef .tc main_v10) = W (Proc.devRef .tc main_v10) := by
  unfold chunk opsW
  simp only [List.drop_succ_cons, List.drop_zero, List.take_succ_cons, List.take_zero]
  after_reads_simp

set_option maxHeartbeats 4000000 in
theorem keep7_v12 (W : Valuation τ sig (Elt Ideal)) :
    after (chunk 71 25) W (Proc.devRef .tc main_v12) = W (Proc.devRef .tc main_v12) := by
  unfold chunk opsW
  simp only [List.drop_succ_cons, List.drop_zero, List.take_succ_cons, List.take_zero]
  after_reads_simp

set_option maxHeartbeats 4000000 in
theorem keep7_v20 (W : Valuation τ sig (Elt Ideal)) :
    after (chunk 71 25) W (Proc.devRef .tc main_v20) = W (Proc.devRef .tc main_v20) := by
  unfold chunk opsW
  simp only [List.drop_succ_cons, List.drop_zero, List.take_succ_cons, List.take_zero]
  after_reads_simp

set_option maxHeartbeats 4000000 in
theorem keep7_v26 (W : Valuation τ sig (Elt Ideal)) :
    after (chunk 71 25) W (Proc.devRef .tc main_v26) = W (Proc.devRef .tc main_v26) := by
  unfold chunk opsW
  simp only [List.drop_succ_cons, List.drop_zero, List.take_succ_cons, List.take_zero]
  after_reads_simp

set_option maxHeartbeats 4000000 in
theorem keep7_v47 (W : Valuation τ sig (Elt Ideal)) :
    after (chunk 71 25) W (Proc.devRef .tc main_v47) = W (Proc.devRef .tc main_v47) := by
  unfold chunk opsW
  simp only [List.drop_succ_cons, List.drop_zero, List.take_succ_cons, List.take_zero]
  after_reads_simp

set_option maxHeartbeats 4000000 in
theorem keep7_arg0 (W : Valuation τ sig (Elt Ideal)) :
    after (chunk 71 25) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep7_arg1 (W : Valuation τ sig (Elt Ideal)) :
    after (chunk 71 25) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep7_arg2 (W : Valuation τ sig (Elt Ideal)) :
    after (chunk 71 25) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep7_arg3 (W : Valuation τ sig (Elt Ideal)) :
    after (chunk 71 25) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep7_arg4 (W : Valuation τ sig (Elt Ideal)) :
    after (chunk 71 25) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep7_arg5 (W : Valuation τ sig (Elt Ideal)) :
    after (chunk 71 25) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at8 (W : Valuation τ sig (Elt Ideal)) :
    after (chunk 96 3) W (Proc.devRef .tc main_v69)
      = subf (W (Proc.devRef .tc main_v47)) (cornerR (W (Proc.devRef .tc main_v8)) (W (Proc.devRef .tc main_v64)) (W (Proc.devRef .tc main_v65)) (W (Proc.devRef .tc main_v66))) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep8_v3 (W : Valuation τ sig (Elt Ideal)) :
    after (chunk 96 3) W (Proc.devRef .tc main_v3) = W (Proc.devRef .tc main_v3) := by
  unfold chunk opsW
  simp only [List.drop_succ_cons, List.drop_zero, List.take_succ_cons, List.take_zero]
  after_reads_simp

set_option maxHeartbeats 4000000 in
theorem keep8_v8 (W : Valuation τ sig (Elt Ideal)) :
    after (chunk 96 3) W (Proc.devRef .tc main_v8) = W (Proc.devRef .tc main_v8) := by
  unfold chunk opsW
  simp only [List.drop_succ_cons, List.drop_zero, List.take_succ_cons, List.take_zero]
  after_reads_simp

set_option maxHeartbeats 4000000 in
theorem keep8_v10 (W : Valuation τ sig (Elt Ideal)) :
    after (chunk 96 3) W (Proc.devRef .tc main_v10) = W (Proc.devRef .tc main_v10) := by
  unfold chunk opsW
  simp only [List.drop_succ_cons, List.drop_zero, List.take_succ_cons, List.take_zero]
  after_reads_simp

set_option maxHeartbeats 4000000 in
theorem keep8_v12 (W : Valuation τ sig (Elt Ideal)) :
    after (chunk 96 3) W (Proc.devRef .tc main_v12) = W (Proc.devRef .tc main_v12) := by
  unfold chunk opsW
  simp only [List.drop_succ_cons, List.drop_zero, List.take_succ_cons, List.take_zero]
  after_reads_simp

set_option maxHeartbeats 4000000 in
theorem keep8_v20 (W : Valuation τ sig (Elt Ideal)) :
    after (chunk 96 3) W (Proc.devRef .tc main_v20) = W (Proc.devRef .tc main_v20) := by
  unfold chunk opsW
  simp only [List.drop_succ_cons, List.drop_zero, List.take_succ_cons, List.take_zero]
  after_reads_simp

set_option maxHeartbeats 4000000 in
theorem keep8_v26 (W : Valuation τ sig (Elt Ideal)) :
    after (chunk 96 3) W (Proc.devRef .tc main_v26) = W (Proc.devRef .tc main_v26) := by
  unfold chunk opsW
  simp only [List.drop_succ_cons, List.drop_zero, List.take_succ_cons, List.take_zero]
  after_reads_simp

set_option maxHeartbeats 4000000 in
theorem keep8_arg0 (W : Valuation τ sig (Elt Ideal)) :
    after (chunk 96 3) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep8_arg1 (W : Valuation τ sig (Elt Ideal)) :
    after (chunk 96 3) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep8_arg2 (W : Valuation τ sig (Elt Ideal)) :
    after (chunk 96 3) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep8_arg3 (W : Valuation τ sig (Elt Ideal)) :
    after (chunk 96 3) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep8_arg4 (W : Valuation τ sig (Elt Ideal)) :
    after (chunk 96 3) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep8_arg5 (W : Valuation τ sig (Elt Ideal)) :
    after (chunk 96 3) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at9_v86 (W : Valuation τ sig (Elt Ideal)) :
    after (chunk 99 25) W (Proc.devRef .tc main_v86)
      = colB (W (Proc.devRef .tc main_v26)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at9_v87 (W : Valuation τ sig (Elt Ideal)) :
    after (chunk 99 25) W (Proc.devRef .tc main_v87)
      = colE (W (Proc.devRef .tc main_v20)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at9_v88 (W : Valuation τ sig (Elt Ideal)) :
    after (chunk 99 25) W (Proc.devRef .tc main_v88)
      = colE (W (Proc.devRef .tc main_v10)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep9_v3 (W : Valuation τ sig (Elt Ideal)) :
    after (chunk 99 25) W (Proc.devRef .tc main_v3) = W (Proc.devRef .tc main_v3) := by
  unfold chunk opsW
  simp only [List.drop_succ_cons, List.drop_zero, List.take_succ_cons, List.take_zero]
  after_reads_simp

set_option maxHeartbeats 4000000 in
theorem keep9_v8 (W : Valuation τ sig (Elt Ideal)) :
    after (chunk 99 25) W (Proc.devRef .tc main_v8) = W (Proc.devRef .tc main_v8) := by
  unfold chunk opsW
  simp only [List.drop_succ_cons, List.drop_zero, List.take_succ_cons, List.take_zero]
  after_reads_simp

set_option maxHeartbeats 4000000 in
theorem keep9_v10 (W : Valuation τ sig (Elt Ideal)) :
    after (chunk 99 25) W (Proc.devRef .tc main_v10) = W (Proc.devRef .tc main_v10) := by
  unfold chunk opsW
  simp only [List.drop_succ_cons, List.drop_zero, List.take_succ_cons, List.take_zero]
  after_reads_simp

set_option maxHeartbeats 4000000 in
theorem keep9_v12 (W : Valuation τ sig (Elt Ideal)) :
    after (chunk 99 25) W (Proc.devRef .tc main_v12) = W (Proc.devRef .tc main_v12) := by
  unfold chunk opsW
  simp only [List.drop_succ_cons, List.drop_zero, List.take_succ_cons, List.take_zero]
  after_reads_simp

set_option maxHeartbeats 4000000 in
theorem keep9_v26 (W : Valuation τ sig (Elt Ideal)) :
    after (chunk 99 25) W (Proc.devRef .tc main_v26) = W (Proc.devRef .tc main_v26) := by
  unfold chunk opsW
  simp only [List.drop_succ_cons, List.drop_zero, List.take_succ_cons, List.take_zero]
  after_reads_simp

set_option maxHeartbeats 4000000 in
theorem keep9_v69 (W : Valuation τ sig (Elt Ideal)) :
    after (chunk 99 25) W (Proc.devRef .tc main_v69) = W (Proc.devRef .tc main_v69) := by
  unfold chunk opsW
  simp only [List.drop_succ_cons, List.drop_zero, List.take_succ_cons, List.take_zero]
  after_reads_simp

set_option maxHeartbeats 4000000 in
theorem keep9_arg0 (W : Valuation τ sig (Elt Ideal)) :
    after (chunk 99 25) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep9_arg1 (W : Valuation τ sig (Elt Ideal)) :
    after (chunk 99 25) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep9_arg2 (W : Valuation τ sig (Elt Ideal)) :
    after (chunk 99 25) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep9_arg3 (W : Valuation τ sig (Elt Ideal)) :
    after (chunk 99 25) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep9_arg4 (W : Valuation τ sig (Elt Ideal)) :
    after (chunk 99 25) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep9_arg5 (W : Valuation τ sig (Elt Ideal)) :
    after (chunk 99 25) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at10 (W : Valuation τ sig (Elt Ideal)) :
    after (chunk 124 3) W (Proc.devRef .tc main_v91)
      = subf (W (Proc.devRef .tc main_v69)) (cornerR (W (Proc.devRef .tc main_v8)) (W (Proc.devRef .tc main_v86)) (W (Proc.devRef .tc main_v87)) (W (Proc.devRef .tc main_v88))) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep10_v3 (W : Valuation τ sig (Elt Ideal)) :
    after (chunk 124 3) W (Proc.devRef .tc main_v3) = W (Proc.devRef .tc main_v3) := by
  unfold chunk opsW
  simp only [List.drop_succ_cons, List.drop_zero, List.take_succ_cons, List.take_zero]
  after_reads_simp

set_option maxHeartbeats 4000000 in
theorem keep10_v8 (W : Valuation τ sig (Elt Ideal)) :
    after (chunk 124 3) W (Proc.devRef .tc main_v8) = W (Proc.devRef .tc main_v8) := by
  unfold chunk opsW
  simp only [List.drop_succ_cons, List.drop_zero, List.take_succ_cons, List.take_zero]
  after_reads_simp

set_option maxHeartbeats 4000000 in
theorem keep10_v10 (W : Valuation τ sig (Elt Ideal)) :
    after (chunk 124 3) W (Proc.devRef .tc main_v10) = W (Proc.devRef .tc main_v10) := by
  unfold chunk opsW
  simp only [List.drop_succ_cons, List.drop_zero, List.take_succ_cons, List.take_zero]
  after_reads_simp

set_option maxHeartbeats 4000000 in
theorem keep10_v12 (W : Valuation τ sig (Elt Ideal)) :
    after (chunk 124 3) W (Proc.devRef .tc main_v12) = W (Proc.devRef .tc main_v12) := by
  unfold chunk opsW
  simp only [List.drop_succ_cons, List.drop_zero, List.take_succ_cons, List.take_zero]
  after_reads_simp

set_option maxHeartbeats 4000000 in
theorem keep10_v26 (W : Valuation τ sig (Elt Ideal)) :
    after (chunk 124 3) W (Proc.devRef .tc main_v26) = W (Proc.devRef .tc main_v26) := by
  unfold chunk opsW
  simp only [List.drop_succ_cons, List.drop_zero, List.take_succ_cons, List.take_zero]
  after_reads_simp

set_option maxHeartbeats 4000000 in
theorem keep10_arg0 (W : Valuation τ sig (Elt Ideal)) :
    after (chunk 124 3) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep10_arg1 (W : Valuation τ sig (Elt Ideal)) :
    after (chunk 124 3) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep10_arg2 (W : Valuation τ sig (Elt Ideal)) :
    after (chunk 124 3) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep10_arg3 (W : Valuation τ sig (Elt Ideal)) :
    after (chunk 124 3) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep10_arg4 (W : Valuation τ sig (Elt Ideal)) :
    after (chunk 124 3) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep10_arg5 (W : Valuation τ sig (Elt Ideal)) :
    after (chunk 124 3) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at11_v108 (W : Valuation τ sig (Elt Ideal)) :
    after (chunk 127 25) W (Proc.devRef .tc main_v108)
      = colB (W (Proc.devRef .tc main_v26)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at11_v109 (W : Valuation τ sig (Elt Ideal)) :
    after (chunk 127 25) W (Proc.devRef .tc main_v109)
      = colE (W (Proc.devRef .tc main_v12)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem at11_v110 (W : Valuation τ sig (Elt Ideal)) :
    after (chunk 127 25) W (Proc.devRef .tc main_v110)
      = colE (W (Proc.devRef .tc main_v10)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep11_v3 (W : Valuation τ sig (Elt Ideal)) :
    after (chunk 127 25) W (Proc.devRef .tc main_v3) = W (Proc.devRef .tc main_v3) := by
  unfold chunk opsW
  simp only [List.drop_succ_cons, List.drop_zero, List.take_succ_cons, List.take_zero]
  after_reads_simp

set_option maxHeartbeats 4000000 in
theorem keep11_v8 (W : Valuation τ sig (Elt Ideal)) :
    after (chunk 127 25) W (Proc.devRef .tc main_v8) = W (Proc.devRef .tc main_v8) := by
  unfold chunk opsW
  simp only [List.drop_succ_cons, List.drop_zero, List.take_succ_cons, List.take_zero]
  after_reads_simp

set_option maxHeartbeats 4000000 in
theorem keep11_v91 (W : Valuation τ sig (Elt Ideal)) :
    after (chunk 127 25) W (Proc.devRef .tc main_v91) = W (Proc.devRef .tc main_v91) := by
  unfold chunk opsW
  simp only [List.drop_succ_cons, List.drop_zero, List.take_succ_cons, List.take_zero]
  after_reads_simp

set_option maxHeartbeats 4000000 in
theorem keep11_arg0 (W : Valuation τ sig (Elt Ideal)) :
    after (chunk 127 25) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep11_arg1 (W : Valuation τ sig (Elt Ideal)) :
    after (chunk 127 25) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep11_arg2 (W : Valuation τ sig (Elt Ideal)) :
    after (chunk 127 25) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep11_arg3 (W : Valuation τ sig (Elt Ideal)) :
    after (chunk 127 25) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep11_arg4 (W : Valuation τ sig (Elt Ideal)) :
    after (chunk 127 25) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep11_arg5 (W : Valuation τ sig (Elt Ideal)) :
    after (chunk 127 25) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at12 (W : Valuation τ sig (Elt Ideal)) :
    after (chunk 152 3) W (Proc.devRef .tc main_v113)
      = addf (W (Proc.devRef .tc main_v91)) (cornerR (W (Proc.devRef .tc main_v8)) (W (Proc.devRef .tc main_v108)) (W (Proc.devRef .tc main_v109)) (W (Proc.devRef .tc main_v110))) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep12_v3 (W : Valuation τ sig (Elt Ideal)) :
    after (chunk 152 3) W (Proc.devRef .tc main_v3) = W (Proc.devRef .tc main_v3) := by
  unfold chunk opsW
  simp only [List.drop_succ_cons, List.drop_zero, List.take_succ_cons, List.take_zero]
  after_reads_simp

set_option maxHeartbeats 4000000 in
theorem keep12_arg0 (W : Valuation τ sig (Elt Ideal)) :
    after (chunk 152 3) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep12_arg1 (W : Valuation τ sig (Elt Ideal)) :
    after (chunk 152 3) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep12_arg2 (W : Valuation τ sig (Elt Ideal)) :
    after (chunk 152 3) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep12_arg3 (W : Valuation τ sig (Elt Ideal)) :
    after (chunk 152 3) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep12_arg4 (W : Valuation τ sig (Elt Ideal)) :
    after (chunk 152 3) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep12_arg5 (W : Valuation τ sig (Elt Ideal)) :
    after (chunk 152 3) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at13 (W : Valuation τ sig (Elt Ideal)) :
    after (chunk 155 5) W (Proc.devRef .tc main_v114)
      = majR (W (Proc.devRef .tc main_v113)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep13_v3 (W : Valuation τ sig (Elt Ideal)) :
    after (chunk 155 5) W (Proc.devRef .tc main_v3) = W (Proc.devRef .tc main_v3) := by
  unfold chunk opsW
  simp only [List.drop_succ_cons, List.drop_zero, List.take_succ_cons, List.take_zero]
  after_reads_simp

set_option maxHeartbeats 4000000 in
theorem keep13_arg0 (W : Valuation τ sig (Elt Ideal)) :
    after (chunk 155 5) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep13_arg1 (W : Valuation τ sig (Elt Ideal)) :
    after (chunk 155 5) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep13_arg2 (W : Valuation τ sig (Elt Ideal)) :
    after (chunk 155 5) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep13_arg3 (W : Valuation τ sig (Elt Ideal)) :
    after (chunk 155 5) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep13_arg4 (W : Valuation τ sig (Elt Ideal)) :
    after (chunk 155 5) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep13_arg5 (W : Valuation τ sig (Elt Ideal)) :
    after (chunk 155 5) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at14 (W : Valuation τ sig (Elt Ideal)) :
    after (chunk 160 15) W (Proc.devRef .tc main_v115)
      = lsmR (W (Proc.devRef .tc main_v3)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep14_v114 (W : Valuation τ sig (Elt Ideal)) :
    after (chunk 160 15) W (Proc.devRef .tc main_v114) = W (Proc.devRef .tc main_v114) := by
  unfold chunk opsW
  simp only [List.drop_succ_cons, List.drop_zero, List.take_succ_cons, List.take_zero]
  after_reads_simp

set_option maxHeartbeats 4000000 in
theorem keep14_arg0 (W : Valuation τ sig (Elt Ideal)) :
    after (chunk 160 15) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep14_arg1 (W : Valuation τ sig (Elt Ideal)) :
    after (chunk 160 15) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep14_arg2 (W : Valuation τ sig (Elt Ideal)) :
    after (chunk 160 15) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep14_arg3 (W : Valuation τ sig (Elt Ideal)) :
    after (chunk 160 15) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep14_arg4 (W : Valuation τ sig (Elt Ideal)) :
    after (chunk 160 15) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep14_arg5 (W : Valuation τ sig (Elt Ideal)) :
    after (chunk 160 15) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at15 (W : Valuation τ sig (Elt Ideal)) :
    after (chunk 175 25) W (Proc.devRef .tc main_v119)
      = nllR (W (Proc.devRef .tc main_v115)) (W (Proc.devRef .tc main_v114)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep15_arg0 (W : Valuation τ sig (Elt Ideal)) :
    after (chunk 175 25) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep15_arg1 (W : Valuation τ sig (Elt Ideal)) :
    after (chunk 175 25) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep15_arg2 (W : Valuation τ sig (Elt Ideal)) :
    after (chunk 175 25) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep15_arg3 (W : Valuation τ sig (Elt Ideal)) :
    after (chunk 175 25) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep15_arg4 (W : Valuation τ sig (Elt Ideal)) :
    after (chunk 175 25) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep15_arg5 (W : Valuation τ sig (Elt Ideal)) :
    after (chunk 175 25) W (Proc.devRef .tc main_arg5) = W (Proc.devRef .tc main_arg5) := by
  unfold chunk opsW
  simp only [List.drop_succ_cons, List.drop_zero, List.take_succ_cons, List.take_zero]
  after_reads_simp

set_option maxHeartbeats 4000000 in
theorem at16 (W : Valuation τ sig (Elt Ideal)) :
    after (chunk 200 10) W (Proc.devRef .tc main_v126)
      = meanR (W (Proc.devRef .tc main_v119)) (W (Proc.devRef .tc main_arg5)) := by
  unfold chunk opsW
  simp only [List.drop_succ_cons, List.drop_zero, List.take_succ_cons, List.take_zero]
  after_reads_simp
  try simp -implicitDefEqProofs only [TRef.toBuf, TRef.ofBuf, cast_cast, cast_eq]
  rfl

set_option maxHeartbeats 4000000 in
theorem keep16_arg0 (W : Valuation τ sig (Elt Ideal)) :
    after (chunk 200 10) W (Proc.devRef .tc main_arg0) = W (Proc.devRef .tc main_arg0) := by
  unfold chunk opsW
  simp only [List.drop_succ_cons, List.drop_zero, List.take_succ_cons, List.take_zero]
  after_reads_simp

set_option maxHeartbeats 4000000 in
theorem keep16_arg1 (W : Valuation τ sig (Elt Ideal)) :
    after (chunk 200 10) W (Proc.devRef .tc main_arg1) = W (Proc.devRef .tc main_arg1) := by
  unfold chunk opsW
  simp only [List.drop_succ_cons, List.drop_zero, List.take_succ_cons, List.take_zero]
  after_reads_simp

set_option maxHeartbeats 4000000 in
theorem keep16_arg2 (W : Valuation τ sig (Elt Ideal)) :
    after (chunk 200 10) W (Proc.devRef .tc main_arg2) = W (Proc.devRef .tc main_arg2) := by
  unfold chunk opsW
  simp only [List.drop_succ_cons, List.drop_zero, List.take_succ_cons, List.take_zero]
  after_reads_simp

set_option maxHeartbeats 4000000 in
theorem keep16_arg3 (W : Valuation τ sig (Elt Ideal)) :
    after (chunk 200 10) W (Proc.devRef .tc main_arg3) = W (Proc.devRef .tc main_arg3) := by
  unfold chunk opsW
  simp only [List.drop_succ_cons, List.drop_zero, List.take_succ_cons, List.take_zero]
  after_reads_simp

set_option maxHeartbeats 4000000 in
theorem keep16_arg4 (W : Valuation τ sig (Elt Ideal)) :
    after (chunk 200 10) W (Proc.devRef .tc main_arg4) = W (Proc.devRef .tc main_arg4) := by
  unfold chunk opsW
  simp only [List.drop_succ_cons, List.drop_zero, List.take_succ_cons, List.take_zero]
  after_reads_simp

set_option maxHeartbeats 4000000 in
theorem keep16_arg5 (W : Valuation τ sig (Elt Ideal)) :
    after (chunk 200 10) W (Proc.devRef .tc main_arg5) = W (Proc.devRef .tc main_arg5) := by
  unfold chunk opsW
  simp only [List.drop_succ_cons, List.drop_zero, List.take_succ_cons, List.take_zero]
  after_reads_simp

end Cert.ReferenceIdeal.Run

end
-- ==== Proof.RefVal.lean ====
module

public import proofs.«01_k».proof.Proof.RefStages

/-! The reference's result as one function of its arguments, and what its run leaves unchanged. -/

@[expose] public section

set_option maxRecDepth 65536

noncomputable section

namespace Cert.ReferenceIdeal.Run

open Idealize.ShloMosaic Idealize.SL.Sem Idealize.ShloMosaic.StableHlo
open Cert.ReferenceIdeal Cert.ReferenceIdeal.Facts₀ Cert.ReferenceIdeal.Facts

/-- The pixels of each class in each box: the integral image at the box's four corners. -/
def countR (ii : FVec Ideal S8x769x769x5 .f32) (y0 x0 yf xf : IVec S8x512 32) : FVec Ideal S8x512x5 .f32 :=
  addf (subf (subf (cornerR ii (colB imgR) (colE yf) (colE xf)) (cornerR ii (colB imgR) (colE y0) (colE xf)))
    (cornerR ii (colB imgR) (colE yf) (colE x0))) (cornerR ii (colB imgR) (colE y0) (colE x0))

/-- The majority class of each box, from the class scores of the pixels and the boxes. -/
def boxMajR (a1 : FVec Ideal S8x5x768x768 .f32) (a4 : IVec S8x512x4 32) : IVec S8x512 32 :=
  majR (countR (iiR (onehotR (labR a1))) (y0R a4) (x0R a4) (farR (y1R a4) (y0R a4)) (farR (x1R a4) (x0R a4)))

/-- The reference's result. -/
def valR (a0 : FVec Ideal S8x512x512 .f32) (a1 : FVec Ideal S8x5x768x768 .f32) (a2 : FVec Ideal S5x512 .f32)
    (a3 : FVec Ideal S5 .f32) (a4 : IVec S8x512x4 32) (a5 : IVec S8x512 32) : FVec Ideal S_ .f32 :=
  meanR (nllR (lsmR (logitsR a0 a2 a3)) (boxMajR a1 a4)) a5

/-- The operations from `a` on are the `n` next ones, then those from `a + n` on. -/
theorem after_chunk (a n : Nat) (W : Valuation τ sig (Elt Ideal)) :
    after (opsW.1.drop a) W = after (opsW.1.drop (a + n)) (after (chunk a n) W) := by
  have h : opsW.1.drop a = chunk a n ++ opsW.1.drop (a + n) := by
    unfold chunk; rw [← List.drop_drop, List.take_append_drop]
  rw [h]
  generalize chunk a n = l
  induction l generalizing W with
  | nil => rfl
  | cons op l ih => exact ih _

set_option maxHeartbeats 4000000 in
theorem drop_all : opsW.1.drop 210 = [] := by
  unfold opsW
  simp only [List.drop_succ_cons, List.drop_nil]

set_option maxHeartbeats 4000000 in
/-- The whole line, stage by stage. -/
theorem after_ops (W : Valuation τ sig (Elt Ideal)) :
    after opsW.1 W = (after (chunk 200 10) (after (chunk 175 25) (after (chunk 160 15) (after (chunk 155 5) (after (chunk 152 3) (after (chunk 127 25) (after (chunk 124 3) (after (chunk 99 25) (after (chunk 96 3) (after (chunk 71 25) (after (chunk 69 2) (after (chunk 44 25) (after (chunk 24 20) (after (chunk 15 9) (after (chunk 4 11) (after (chunk 0 4) W)))))))))))))))) := by
  have h0 := after_chunk 0 4 W
  rw [List.drop_zero] at h0
  rw [h0]
  rw [after_chunk 4 11]
  rw [after_chunk 15 9]
  rw [after_chunk 24 20]
  rw [after_chunk 44 25]
  rw [after_chunk 69 2]
  rw [after_chunk 71 25]
  rw [after_chunk 96 3]
  rw [after_chunk 99 25]
  rw [after_chunk 124 3]
  rw [after_chunk 127 25]
  rw [after_chunk 152 3]
  rw [after_chunk 155 5]
  rw [after_chunk 160 15]
  rw [after_chunk 175 25]
  rw [after_chunk 200 10]
  rw [drop_all]
  rfl

set_option maxHeartbeats 4000000 in
/-- What the reference leaves in its result. -/
theorem result_val (W : Valuation τ sig (Elt Ideal)) :
    after opsW.1 W (Proc.devRef .tc main_v126)
      = valR (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [after_ops]
  rw [at16]
  rw [keep15_arg5, at15]
  rw [keep14_arg5, keep14_v114, at14]
  rw [keep13_arg5, at13, keep13_v3]
  rw [keep12_arg5, at12, keep12_v3]
  rw [keep11_arg5, at11_v108, at11_v109, at11_v110, keep11_v3, keep11_v8, keep11_v91]
  rw [keep10_arg5, keep10_v10, keep10_v12, keep10_v26, keep10_v3, keep10_v8, at10]
  rw [keep9_arg5, keep9_v10, keep9_v12, keep9_v26, keep9_v3, keep9_v69, keep9_v8, at9_v86, at9_v87, at9_v88]
  rw [keep8_arg5, keep8_v10, keep8_v12, keep8_v20, keep8_v26, keep8_v3, at8, keep8_v8]
  rw [keep7_arg5, keep7_v10, keep7_v12, keep7_v20, keep7_v26, keep7_v3, keep7_v47, at7_v64, at7_v65, at7_v66, keep7_v8]
  rw [keep6_arg5, keep6_v10, keep6_v12, keep6_v20, keep6_v24, keep6_v26, keep6_v3, at6, keep6_v8]
  rw [keep5_arg5, keep5_v10, keep5_v12, keep5_v20, keep5_v24, keep5_v26, keep5_v3, at5_v43, at5_v44, at5_v45, keep5_v8]
  rw [keep4_arg5, at4_v10, at4_v12, at4_v20, at4_v24, at4_v26, keep4_v3, keep4_v8]
  rw [keep3_arg4, keep3_arg5, keep3_v3, at3]
  rw [keep2_arg4, keep2_arg5, keep2_v3, at2]
  rw [keep1_arg1, keep1_arg4, keep1_arg5, at1]
  rfl

theorem arg0_kept (W : Valuation τ sig (Elt Ideal)) :
    after opsW.1 W (Proc.devRef .tc main_arg0) = W (Proc.devRef .tc main_arg0) := by
  rw [after_ops]
  rw [keep16_arg0, keep15_arg0, keep14_arg0, keep13_arg0, keep12_arg0, keep11_arg0, keep10_arg0, keep9_arg0, keep8_arg0, keep7_arg0, keep6_arg0, keep5_arg0, keep4_arg0, keep3_arg0, keep2_arg0, keep1_arg0]

theorem arg1_kept (W : Valuation τ sig (Elt Ideal)) :
    after opsW.1 W (Proc.devRef .tc main_arg1) = W (Proc.devRef .tc main_arg1) := by
  rw [after_ops]
  rw [keep16_arg1, keep15_arg1, keep14_arg1, keep13_arg1, keep12_arg1, keep11_arg1, keep10_arg1, keep9_arg1, keep8_arg1, keep7_arg1, keep6_arg1, keep5_arg1, keep4_arg1, keep3_arg1, keep2_arg1, keep1_arg1]

theorem arg2_kept (W : Valuation τ sig (Elt Ideal)) :
    after opsW.1 W (Proc.devRef .tc main_arg2) = W (Proc.devRef .tc main_arg2) := by
  rw [after_ops]
  rw [keep16_arg2, keep15_arg2, keep14_arg2, keep13_arg2, keep12_arg2, keep11_arg2, keep10_arg2, keep9_arg2, keep8_arg2, keep7_arg2, keep6_arg2, keep5_arg2, keep4_arg2, keep3_arg2, keep2_arg2, keep1_arg2]

theorem arg3_kept (W : Valuation τ sig (Elt Ideal)) :
    after opsW.1 W (Proc.devRef .tc main_arg3) = W (Proc.devRef .tc main_arg3) := by
  rw [after_ops]
  rw [keep16_arg3, keep15_arg3, keep14_arg3, keep13_arg3, keep12_arg3, keep11_arg3, keep10_arg3, keep9_arg3, keep8_arg3, keep7_arg3, keep6_arg3, keep5_arg3, keep4_arg3, keep3_arg3, keep2_arg3, keep1_arg3]

theorem arg4_kept (W : Valuation τ sig (Elt Ideal)) :
    after opsW.1 W (Proc.devRef .tc main_arg4) = W (Proc.devRef .tc main_arg4) := by
  rw [after_ops]
  rw [keep16_arg4, keep15_arg4, keep14_arg4, keep13_arg4, keep12_arg4, keep11_arg4, keep10_arg4, keep9_arg4, keep8_arg4, keep7_arg4, keep6_arg4, keep5_arg4, keep4_arg4, keep3_arg4, keep2_arg4, keep1_arg4]

theorem arg5_kept (W : Valuation τ sig (Elt Ideal)) :
    after opsW.1 W (Proc.devRef .tc main_arg5) = W (Proc.devRef .tc main_arg5) := by
  rw [after_ops]
  rw [keep16_arg5, keep15_arg5, keep14_arg5, keep13_arg5, keep12_arg5, keep11_arg5, keep10_arg5, keep9_arg5, keep8_arg5, keep7_arg5, keep6_arg5, keep5_arg5, keep4_arg5, keep3_arg5, keep2_arg5, keep1_arg5]

end Cert.ReferenceIdeal.Run

end
-- ==== Proof.RefArg.lean ====
module

public import proofs.«01_k».proof.Proof.RefVal
public import proofs.«01_k».proof.Proof.Num
public import Idealize.ShloMosaic.Lib.Pointwise

/-! The reference's arg-max over five classes, at an index. -/

@[expose] public section

set_option maxRecDepth 65536

noncomputable section

namespace Cert.ReferenceIdeal.Run

open Idealize.ShloMosaic
open Cert.ReferenceIdeal Cert.ReferenceIdeal.Facts₀ Cert.ReferenceIdeal.Facts Cert.Num

/-- Five positions in order are the filtered list of all positions. -/
theorem filter_five {N : ℕ} (p : Fin N → Bool) (e : Fin 5 → Fin N) (hmono : StrictMono e)
    (hmem : ∀ n, p n = true ↔ ∃ k, e k = n) : (List.finRange N).filter p = [e 0, e 1, e 2, e 3, e 4] := by
  have hE : [e 0, e 1, e 2, e 3, e 4] = List.ofFn e := by simp [List.ofFn_succ]
  rw [hE]
  have h1 : ((List.finRange N).filter p).Pairwise (· < ·) := (List.pairwise_lt_finRange N).filter p
  have h2 : (List.ofFn e).Pairwise (· < ·) := List.pairwise_ofFn.2 fun _ _ h => hmono h
  have hp : ((List.finRange N).filter p).Perm (List.ofFn e) := by
    rw [List.perm_ext_iff_of_nodup (h1.imp fun h => ne_of_lt h) (h2.imp fun h => ne_of_lt h)]
    intro n
    rw [List.mem_filter, List.mem_ofFn]
    simp [hmem]
  exact hp.eq_of_pairwise (fun a b _ _ h h' => absurd (h.trans h') (lt_irrefl _)) h1 h2

/-- One step of the arg-max: the later class wins only if it is greater. -/
theorem argmax_step (m b : EReal) (i k : BitVec 32) (hik : i.slt k = true) :
    reducer_argmax_f32_i32 (F := Ideal) (m, i) (b, k) = (max m b, if m < b then k else i) := by
  unfold reducer_argmax_f32_i32
  dsimp only
  have c : IntOp.cmpi .slt i k = 1#1 := by show BitVec.ofBool (i.slt k) = 1#1; rw [hik]; rfl
  rw [c]
  simp only [Ideal.cmpf_def, Ideal.cmp]
  rcases lt_trichotomy m b with h | h | h
  · simp [h, not_lt_of_gt h, ne_of_lt h, IntOp.ori, IntOp.andi, Scalar.select, max_eq_right h.le]
  · subst h
    simp [IntOp.ori, IntOp.andi, Scalar.select]
  · simp [h, not_lt_of_gt h, ne_of_gt h, IntOp.ori, IntOp.andi, Scalar.select, max_eq_left h.le]

theorem argmax_first (b : EReal) :
    reducer_argmax_f32_i32 (F := Ideal) (⊥, 0#32) (b, 0#32) = (b, 0#32) := by
  unfold reducer_argmax_f32_i32
  dsimp only
  simp only [Ideal.cmpf_def, Ideal.cmp]
  refine Prod.ext ?_ ?_
  · by_cases h : b = ⊥
    · subst h; simp [IntOp.ori, Scalar.select]
    · simp [IntOp.ori, Scalar.select]
  · dsimp only; unfold Scalar.select; split_ifs <;> rfl

/-- The arg-max over five classes in order is the first greatest. -/
theorem argmax_five (f : Fin 5 → EReal) :
    (reducer_argmax_f32_i32 (F := Ideal) (reducer_argmax_f32_i32 (F := Ideal) (reducer_argmax_f32_i32 (F := Ideal)
      (reducer_argmax_f32_i32 (F := Ideal) (reducer_argmax_f32_i32 (F := Ideal) (⊥, 0#32) (f 0, 0#32)) (f 1, 1#32)) (f 2, 2#32))
        (f 3, 3#32)) (f 4, 4#32)).2 = BitVec.ofNat 32 (am f) := by
  have s1 := argmax_step (f 0) (f 1) 0#32 1#32 (by decide)
  have s2 := argmax_step (max (f 0) (f 1)) (f 2) (if f 0 < f 1 then 1#32 else 0#32) 2#32 (by split_ifs <;> decide)
  have s3 := argmax_step (max (max (f 0) (f 1)) (f 2)) (f 3) (if max (f 0) (f 1) < f 2 then 2#32 else if f 0 < f 1 then 1#32 else 0#32)
    3#32 (by split_ifs <;> decide)
  have s4 := argmax_step (max (max (max (f 0) (f 1)) (f 2)) (f 3)) (f 4) (if max (max (f 0) (f 1)) (f 2) < f 3 then 3#32
    else if max (f 0) (f 1) < f 2 then 2#32 else if f 0 < f 1 then 1#32 else 0#32) 4#32 (by split_ifs <;> decide)
  rw [argmax_first, s1, s2, s3, s4]
  unfold am
  split_ifs <;> rfl

/-- The arg-max over an axis of five, from its fiber at `j`. -/
theorem argReduce_five {s t u : Shape} {axes : List (Fin s.rank)} (x : FVec Ideal s .f32) (y : IVec s 32) (ix : FVec Ideal u .f32)
    (iy : IVec u 32) (h : s.ReducesTo axes t) (hu : 0 < u.numel) (j : t.Idx) (e : Fin 5 → s.Idx) (f : Fin 5 → EReal)
    (hmono : StrictMono fun k => s.rowMajor (e k)) (hmem : ∀ i, h.drop i = j ↔ ∃ k, e k = i)
    (hix : ix (Shape.Idx.first hu) = (⊥ : EReal)) (hiy : iy (Shape.Idx.first hu) = 0#32)
    (hx : ∀ k, x (e k) = f k) (hy : ∀ k, y (e k) = BitVec.ofNat 32 k.val) :
    (Host.argReduce reducer_argmax_f32_i32 x y ix iy h hu j).2 = BitVec.ofNat 32 (am f) := by
  rw [Ideal.argReduce_eq_reduce2]
  unfold Host.reduce2
  rw [filter_five _ (fun k : Fin 5 => s.rowMajor (e k)) hmono ?_]
  · simp only [List.foldl_cons, List.foldl_nil, Equiv.symm_apply_apply, hx, hy, hix, hiy]
    exact argmax_five f
  · intro n
    rw [decide_eq_true_iff, hmem]
    exact ⟨fun ⟨k, hk⟩ => ⟨k, by rw [hk, Equiv.apply_symm_apply]⟩, fun ⟨k, hk⟩ => ⟨k, by rw [← hk, Equiv.symm_apply_apply]⟩⟩

/-- The positions of a fiber over the second of four axes rise. -/
theorem mono_axis1 {n0 n1 n2 n3 : ℕ} (b : Fin n0) (y : Fin n2) (x : Fin n3) :
    StrictMono fun k : Fin n1 => (⟨4, ![n0, n1, n2, n3]⟩ : Shape).rowMajor (ix4 b k y x) := by
  intro k k' hk
  show ((⟨4, ![n0, n1, n2, n3]⟩ : Shape).rowMajor (ix4 b k y x)).val < ((⟨4, ![n0, n1, n2, n3]⟩ : Shape).rowMajor (ix4 b k' y x)).val
  have e : ∀ k : Fin n1, ((⟨4, ![n0, n1, n2, n3]⟩ : Shape).rowMajor (ix4 b k y x)).val
      = b.val * (n1 * (n2 * n3)) + k.val * (n2 * n3) + y.val * n3 + x.val := fun k => rowMajor_val4 _ _ _ _ rfl rfl rfl
  rw [e, e]
  have hp : 0 < n2 * n3 := Nat.mul_pos (Nat.lt_of_le_of_lt (Nat.zero_le _) y.isLt) (Nat.lt_of_le_of_lt (Nat.zero_le _) x.isLt)
  have : k.val * (n2 * n3) < k'.val * (n2 * n3) := (Nat.mul_lt_mul_right hp).2 hk
  omega

theorem lab_fiber (h : S8x5x768x768.ReducesTo [1] S8x768x768) (b : Fin 8) (y x : Fin 768) (i : S8x5x768x768.Idx) :
    h.drop i = ix3 b y x ↔ ∃ k : Fin 5, ix4 b k y x = i := Shape.ReducesTo.fiber_r4_a1 h _ _

theorem lab_mono (b : Fin 8) (y x : Fin 768) : StrictMono fun k : Fin 5 => S8x5x768x768.rowMajor (ix4 b k y x) := mono_axis1 b y x

theorem lab_class (b : Fin 8) (y x : Fin 768) (k : Fin 5) :
    iotaInDim S8x5x768x768 32 1 (ix4 b k y x) = BitVec.ofNat 32 k.val := rfl

theorem first_zero : constantI S_ 32 0#32 (Shape.Idx.first h_S_) = 0#32 := rfl

theorem labR_eq (a1 : FVec Ideal S8x5x768x768 .f32) : labR a1 = fun j =>
    (Host.argReduce reducer_argmax_f32_i32 a1 (iotaInDim S8x5x768x768 32 1) (constant (F := Ideal) S_ .f32 0xFF800000#32)
      (constantI S_ 32 0#32) reducesTo_S8x5x768x768_S8x768x768_d1 h_S_ j).2 := rfl

/-- The label of a pixel. -/
theorem labR_at (a1 : FVec Ideal S8x5x768x768 .f32) (b : Fin 8) (y x : Fin 768) :
    labR a1 (ix3 b y x) = BitVec.ofNat 32 (am fun k => a1 (ix4 b k y x)) :=
  (congrFun (labR_eq a1) (ix3 b y x)).trans
    (argReduce_five a1 (iotaInDim S8x5x768x768 32 1) (constant (F := Ideal) S_ .f32 0xFF800000#32)
      (constantI S_ 32 0#32) reducesTo_S8x5x768x768_S8x768x768_d1 h_S_ (ix3 b y x) (fun k => ix4 b k y x)
      (fun k => a1 (ix4 b k y x)) (lab_mono b y x) (lab_fiber _ b y x) f32_bot first_zero (fun _ => rfl) (lab_class b y x))

/-- The positions of a fiber over the last of three axes rise. -/
theorem mono_axis2 {n0 n1 n2 : ℕ} (b : Fin n0) (i : Fin n1) :
    StrictMono fun k : Fin n2 => (⟨3, ![n0, n1, n2]⟩ : Shape).rowMajor (ix3 b i k) := by
  intro k k' hk
  show ((⟨3, ![n0, n1, n2]⟩ : Shape).rowMajor (ix3 b i k)).val < ((⟨3, ![n0, n1, n2]⟩ : Shape).rowMajor (ix3 b i k')).val
  have e : ∀ k : Fin n2, ((⟨3, ![n0, n1, n2]⟩ : Shape).rowMajor (ix3 b i k)).val
      = b.val * (n1 * n2) + i.val * n2 + k.val := fun k => rowMajor_val3 _ _ _ rfl rfl
  rw [e, e]
  have : k.val < k'.val := hk
  omega

theorem maj_fiber (h : S8x512x5.ReducesTo [2] S8x512) (b : Fin 8) (i : Fin 512) (q : S8x512x5.Idx) :
    h.drop q = ix2 b i ↔ ∃ k : Fin 5, ix3 b i k = q := Shape.ReducesTo.fiber_r3_a2 h _ _

theorem maj_mono (b : Fin 8) (i : Fin 512) : StrictMono fun k : Fin 5 => S8x512x5.rowMajor (ix3 b i k) := mono_axis2 b i

theorem maj_class (b : Fin 8) (i : Fin 512) (k : Fin 5) : iotaInDim S8x512x5 32 2 (ix3 b i k) = BitVec.ofNat 32 k.val := rfl

theorem majR_eq (c : FVec Ideal S8x512x5 .f32) : majR c = fun j =>
    (Host.argReduce reducer_argmax_f32_i32 c (iotaInDim S8x512x5 32 2) (constant (F := Ideal) S_ .f32 0xFF800000#32)
      (constantI S_ 32 0#32) reducesTo_S8x512x5_S8x512_d2 h_S_ j).2 := rfl

/-- The majority class of a box. -/
theorem majR_at (c : FVec Ideal S8x512x5 .f32) (b : Fin 8) (i : Fin 512) :
    majR c (ix2 b i) = BitVec.ofNat 32 (am fun k => c (ix3 b i k)) :=
  (congrFun (majR_eq c) (ix2 b i)).trans
    (argReduce_five c (iotaInDim S8x512x5 32 2) (constant (F := Ideal) S_ .f32 0xFF800000#32)
      (constantI S_ 32 0#32) reducesTo_S8x512x5_S8x512_d2 h_S_ (ix2 b i) (fun k => ix3 b i k)
      (fun k => c (ix3 b i k)) (maj_mono b i) (maj_fiber _ b i) f32_bot first_zero (fun _ => rfl) (maj_class b i))

end Cert.ReferenceIdeal.Run
-- ==== Proof.RefCount.lean ====
module

public import proofs.«01_k».proof.Proof.RefVal
public import proofs.«01_k».proof.Proof.Words
public import proofs.«01_k».proof.Proof.RefArg
public import Idealize.ShloMosaic.Lib.Pointwise

/-! The reference's counts in a box, at an index. -/

@[expose] public section

set_option maxRecDepth 65536

noncomputable section

namespace Cert.ReferenceIdeal.Run

open Idealize.ShloMosaic
open Cert.ReferenceIdeal Cert.ReferenceIdeal.Facts₀ Cert.ReferenceIdeal.Facts Cert.Num

theorem foldl_sum {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- A window's sum is a sum over the window's positions. -/
theorem window_sum {s t u : Shape} (window strides lo hi : Fin s.rank → ℕ) (x : FVec Ideal s .f32) (init : FVec Ideal u .f32)
    (h : s.ReduceWindows window strides lo hi t) (hu : 0 < u.numel) (j : t.Idx) :
    Host.reduceWindowAdd window strides lo hi x init h hu j
      = (init (Shape.Idx.first hu) : EReal) + ∑ w : (⟨s.rank, window⟩ : Shape).Idx,
          (if hin : ∀ a, lo a ≤ (j (a.cast h.1.symm)).val * strides a + (w a).val
              ∧ (j (a.cast h.1.symm)).val * strides a + (w a).val - lo a < s.size a
            then (x (fun a => ⟨(j (a.cast h.1.symm)).val * strides a + (w a).val - lo a, (hin a).2⟩) : EReal)
            else (init (Shape.Idx.first hu) : EReal)) := by
  rw [← Equiv.sum_comp (⟨s.rank, window⟩ : Shape).rowMajor.symm, Fin.sum_univ_def, ← foldl_sum]
  unfold Host.reduceWindowAdd
  rw [Ideal.hostReduceWindowAdd_def]
  unfold Ideal.hostReduceWindowAdd Host.reduceWindow
  dsimp only
  congr!

/-- A shifted sum over 768 places is the sum of the places up to `y`. -/
theorem shift_sum (y : Fin 768) (g : Fin 768 → EReal) :
    (∑ n : Fin 768, if h : 767 ≤ y.val + n.val ∧ y.val + n.val - 767 < 768 then g ⟨y.val + n.val - 767, h.2⟩ else 0)
      = ∑ z : Fin 768, if z.val ≤ y.val then g z else 0 := by
  have e1 : ∀ n : Fin 768, (if h : 767 ≤ y.val + n.val ∧ y.val + n.val - 767 < 768 then g ⟨y.val + n.val - 767, h.2⟩ else 0)
      = if 767 ≤ y.val + n.val then g ⟨(y.val + n.val - 767) % 768, Nat.mod_lt _ (by decide)⟩ else 0 := by
    intro n
    by_cases h : 767 ≤ y.val + n.val
    · have h2 : y.val + n.val - 767 < 768 := by omega
      rw [dif_pos ⟨h, h2⟩, if_pos h]
      congr 1; apply Fin.ext; exact (Nat.mod_eq_of_lt h2).symm
    · rw [dif_neg (fun q => h q.1), if_neg h]
  rw [Finset.sum_congr rfl fun n _ => e1 n, ← Finset.sum_filter, ← Finset.sum_filter]
  refine Finset.sum_bij' (fun n _ => (⟨(y.val + n.val - 767) % 768, Nat.mod_lt _ (by decide)⟩ : Fin 768))
    (fun z _ => (⟨(z.val + 767 - y.val) % 768, Nat.mod_lt _ (by decide)⟩ : Fin 768)) ?_ ?_ ?_ ?_ ?_
  · intro n hn; simp only [Finset.mem_filter, Finset.mem_univ, true_and] at hn ⊢; omega
  · intro z hz; simp only [Finset.mem_filter, Finset.mem_univ, true_and] at hz ⊢; omega
  · intro n hn; simp only [Finset.mem_filter, Finset.mem_univ, true_and] at hn; apply Fin.ext; dsimp only; omega
  · intro z hz; simp only [Finset.mem_filter, Finset.mem_univ, true_and] at hz; apply Fin.ext; dsimp only; omega
  · intro n hn; rfl

theorem cumR_at (x : FVec Ideal S8x768x768x5 .f32) (b : Fin 8) (y c : Fin 768) (k : Fin 5) :
    cumR x (ix4 b y c k) = ∑ z : Fin 768, if z.val ≤ y.val then (x (ix4 b z c k) : EReal) else 0 := by
  unfold cumR
  rw [window_sum]
  have hi : ∀ j, (broadcastInDim S_ ![] bcast_S_S_ (constant (F := Ideal) S_ .f32 0x00000000#32) j : EReal) = 0 := by
    intro j; pointwise
  rw [hi, zero_add, ← shift_sum y fun z => (x (ix4 b z c k) : EReal)]
  refine Eq.trans (sum_idx4 (n0 := 1) (n1 := 768) (n2 := 1) (n3 := 1) _) ?_
  simp only [Finset.univ_unique, Finset.sum_singleton]
  refine Finset.sum_congr rfl fun n _ => ?_
  by_cases h : 767 ≤ y.val + n.val ∧ y.val + n.val - 767 < 768
  · rw [dif_pos h, dif_pos ?_]
    · congr 1
      funext a
      apply Fin.ext
      match a with
      | ⟨0, _⟩ => show b.val * 1 + 0 - 0 = b.val; omega
      | ⟨1, _⟩ => show y.val * 1 + n.val - 767 = y.val + n.val - 767; omega
      | ⟨2, _⟩ => show c.val * 1 + 0 - 0 = c.val; omega
      | ⟨3, _⟩ => show k.val * 1 + 0 - 0 = k.val; omega
    · intro a
      match a with
      | ⟨0, _⟩ => show 0 ≤ b.val * 1 + 0 ∧ b.val * 1 + 0 - 0 < 8; omega
      | ⟨1, _⟩ => show 767 ≤ y.val * 1 + n.val ∧ y.val * 1 + n.val - 767 < 768; omega
      | ⟨2, _⟩ => show 0 ≤ c.val * 1 + 0 ∧ c.val * 1 + 0 - 0 < 768; omega
      | ⟨3, _⟩ => show 0 ≤ k.val * 1 + 0 ∧ k.val * 1 + 0 - 0 < 5; omega
  · rw [dif_neg h, dif_neg ?_]
    intro q
    have q1 : 767 ≤ y.val * 1 + n.val ∧ y.val * 1 + n.val - 767 < 768 := q (1 : Fin 4)
    omega

theorem cumC_at (x : FVec Ideal S8x768x768x5 .f32) (b : Fin 8) (c y : Fin 768) (k : Fin 5) :
    cumC x (ix4 b c y k) = ∑ z : Fin 768, if z.val ≤ y.val then (x (ix4 b c z k) : EReal) else 0 := by
  unfold cumC
  rw [window_sum]
  have hi : ∀ j, (broadcastInDim S_ ![] bcast_S_S_ (constant (F := Ideal) S_ .f32 0x00000000#32) j : EReal) = 0 := by
    intro j; pointwise
  rw [hi, zero_add, ← shift_sum y fun z => (x (ix4 b c z k) : EReal)]
  refine Eq.trans (sum_idx4 (n0 := 1) (n1 := 1) (n2 := 768) (n3 := 1) _) ?_
  simp only [Finset.univ_unique, Finset.sum_singleton]
  refine Finset.sum_congr rfl fun n _ => ?_
  by_cases h : 767 ≤ y.val + n.val ∧ y.val + n.val - 767 < 768
  · rw [dif_pos h, dif_pos ?_]
    · congr 1
      funext a
      apply Fin.ext
      match a with
      | ⟨0, _⟩ => show b.val * 1 + 0 - 0 = b.val; omega
      | ⟨1, _⟩ => show c.val * 1 + 0 - 0 = c.val; omega
      | ⟨2, _⟩ => show y.val * 1 + n.val - 767 = y.val + n.val - 767; omega
      | ⟨3, _⟩ => show k.val * 1 + 0 - 0 = k.val; omega
    · intro a
      match a with
      | ⟨0, _⟩ => show 0 ≤ b.val * 1 + 0 ∧ b.val * 1 + 0 - 0 < 8; omega
      | ⟨1, _⟩ => show 0 ≤ c.val * 1 + 0 ∧ c.val * 1 + 0 - 0 < 768; omega
      | ⟨2, _⟩ => show 767 ≤ y.val * 1 + n.val ∧ y.val * 1 + n.val - 767 < 768; omega
      | ⟨3, _⟩ => show 0 ≤ k.val * 1 + 0 ∧ k.val * 1 + 0 - 0 < 5; omega
  · rw [dif_neg h, dif_neg ?_]
    intro q
    have q1 : 767 ≤ y.val * 1 + n.val ∧ y.val * 1 + n.val - 767 < 768 := q (2 : Fin 4)
    omega

theorem onehotR_at (lab : IVec S8x768x768 32) (b : Fin 8) (y x : Fin 768) (k : Fin 5) (n : ℕ) (hn : n < 5)
    (h : lab (ix3 b y x) = BitVec.ofNat 32 n) :
    (onehotR lab (ix4 b y x k) : EReal) = nE (if n = k.val then 1 else 0) := by
  unfold onehotR
  pointwise
  rw [h, WordCmp.cmpi_eq_ofNat (by omega) (by omega)]
  show ((((BitVec.ofBool (decide (n = k.val))).toNat : ℕ) : ℝ) : EReal) = _
  unfold nE
  by_cases hk : n = k.val <;> simp [hk]

theorem iiR_at (x : FVec Ideal S8x768x768x5 .f32) (b : Fin 8) (Y X : Fin 769) (k : Fin 5) :
    (iiR x (ix4 b Y X k) : EReal)
      = ∑ z : Fin 768, if z.val < X.val then (∑ w : Fin 768, if w.val < Y.val then (x (ix4 b w z k) : EReal) else 0) else 0 := by
  unfold iiR
  pointwise
  by_cases h : (1 ≤ Y.val ∧ Y.val - 1 < 768) ∧ 1 ≤ X.val ∧ X.val - 1 < 768
  · rw [dif_pos h, cumC_at]
    refine Finset.sum_congr rfl fun z _ => ?_
    refine if_congr (show z.val ≤ X.val - 1 ↔ z.val < X.val by omega) ((cumR_at _ _ _ _ _).trans ?_) rfl
    refine Finset.sum_congr rfl fun w _ => ?_
    exact if_congr (show w.val ≤ Y.val - 1 ↔ w.val < Y.val by omega) rfl rfl
  · rw [dif_neg h]
    have h0 : (FloatOps.sitofp (F := Ideal) FTy.f32 (0#32) : EReal) = 0 := by
      show (((0#32 : BitVec 32).toInt : ℝ) : EReal) = 0
      simp
    rw [h0]
    symm
    refine Finset.sum_eq_zero fun z _ => ?_
    by_cases hX : z.val < X.val
    · rw [if_pos hX]
      refine Finset.sum_eq_zero fun w _ => ?_
      rw [if_neg]
      omega
    · rw [if_neg hX]

/-- The integral image of one class counts the pixels above and left. -/
theorem image_at (lab : IVec S8x768x768 32) (L : Fin 8 → Fin 768 → Fin 768 → ℕ) (hL : ∀ b y x, L b y x < 5)
    (hlab : ∀ b y x, lab (ix3 b y x) = BitVec.ofNat 32 (L b y x)) (b : Fin 8) (Y X : Fin 769) (k : Fin 5) :
    (iiR (onehotR lab) (ix4 b Y X k) : EReal) = nE (pre (L b) k.val Y.val X.val) := by
  rw [iiR_at]
  have e : ∀ z w : Fin 768, (if w.val < Y.val then (onehotR lab (ix4 b w z k) : EReal) else 0)
      = nE (if w.val < Y.val ∧ L b w z = k.val then 1 else 0) := by
    intro z w
    rw [onehotR_at lab b w z k _ (hL b w z) (hlab b w z)]
    by_cases h : w.val < Y.val <;> simp [h, nE_zero]
  have e' : ∀ z : Fin 768, (if z.val < X.val then (∑ w : Fin 768, if w.val < Y.val then (onehotR lab (ix4 b w z k) : EReal) else 0) else 0)
      = nE (∑ w : Fin 768, if w.val < Y.val ∧ z.val < X.val ∧ L b w z = k.val then 1 else 0) := by
    intro z
    rw [Finset.sum_congr rfl fun w _ => e z w, nE_sum]
    by_cases h : z.val < X.val
    · rw [if_pos h]; simp only [h, true_and]
    · rw [if_neg h]; simp [h, nE_zero]
  rw [Finset.sum_congr rfl fun z _ => e' z, nE_sum, Finset.sum_comm]
  rfl

theorem siIdx_at (b : Fin 8) (i : Fin 512) (k : Fin 5) (c : Fin 3) :
    gather_S8x769x769x5_S8x512x3_S8x512x5_2_012_n_n_012_2_1115.siIdx (ix3 b i k) c = ix3 b i c := by
  funext a
  match a with
  | ⟨0, _⟩ => rfl
  | ⟨1, _⟩ => rfl
  | ⟨2, _⟩ => rfl

theorem clamp_word (w : BitVec 32) (n m : ℕ) (h : w.toNat = n) (hn : n ≤ m) (hm : m < 2 ^ 31) : min w.toInt.toNat m = n := by
  rw [toInt_small w (by omega), Int.toNat_natCast, h, min_eq_left hn]

theorem cornerR_at (ii : FVec Ideal S8x769x769x5 .f32) (u v w : IVec S8x512x1 32) (b : Fin 8) (i : Fin 512) (k : Fin 5)
    (b' : Fin 8) (Y X : Fin 769)
    (hb : (u (ix3 b i 0)).toNat = b'.val) (hy : (v (ix3 b i 0)).toNat = Y.val) (hx : (w (ix3 b i 0)).toNat = X.val) :
    (cornerR ii u v w (ix3 b i k) : EReal) = ii (ix4 b' Y X k) := by
  unfold cornerR Host.gather
  have c0 : concatenate S8x512x3 2 [⟨S8x512x1, u⟩, ⟨S8x512x1, v⟩, ⟨S8x512x1, w⟩]
      concatenates_S8x512x1_S8x512x1_S8x512x1_S8x512x3_d2 (ix3 b i 0) = u (ix3 b i 0) := by pointwise
  have c1 : concatenate S8x512x3 2 [⟨S8x512x1, u⟩, ⟨S8x512x1, v⟩, ⟨S8x512x1, w⟩]
      concatenates_S8x512x1_S8x512x1_S8x512x1_S8x512x3_d2 (ix3 b i 1) = v (ix3 b i 0) := by pointwise
  have c2 : concatenate S8x512x3 2 [⟨S8x512x1, u⟩, ⟨S8x512x1, v⟩, ⟨S8x512x1, w⟩]
      concatenates_S8x512x1_S8x512x1_S8x512x1_S8x512x3_d2 (ix3 b i 2) = w (ix3 b i 0) := by pointwise
  generalize concatenate S8x512x3 2 [⟨S8x512x1, u⟩, ⟨S8x512x1, v⟩, ⟨S8x512x1, w⟩]
      concatenates_S8x512x1_S8x512x1_S8x512x1_S8x512x3_d2 = ix at c0 c1 c2 ⊢
  have s0 : gather_S8x769x769x5_S8x512x3_S8x512x5_2_012_n_n_012_2_1115.start (ix3 b i k) ix (0 : Fin 4) = b'.val := by
    unfold GatherDims.start
    refine (dif_pos (show (0 : Fin 4) ∈ ([0, 1, 2] : List (Fin 4)) by decide)).trans ?_
    refine (congrArg (fun q => min q.toInt.toNat 7) ((congrArg ix (siIdx_at b i k 0)).trans c0)).trans ?_
    exact clamp_word _ _ _ hb (by omega) (by decide)
  have s1 : gather_S8x769x769x5_S8x512x3_S8x512x5_2_012_n_n_012_2_1115.start (ix3 b i k) ix (1 : Fin 4) = Y.val := by
    unfold GatherDims.start
    refine (dif_pos (show (1 : Fin 4) ∈ ([0, 1, 2] : List (Fin 4)) by decide)).trans ?_
    refine (congrArg (fun q => min q.toInt.toNat 768) ((congrArg ix (siIdx_at b i k 1)).trans c1)).trans ?_
    exact clamp_word _ _ _ hy (by omega) (by decide)
  have s2 : gather_S8x769x769x5_S8x512x3_S8x512x5_2_012_n_n_012_2_1115.start (ix3 b i k) ix (2 : Fin 4) = X.val := by
    unfold GatherDims.start
    refine (dif_pos (show (2 : Fin 4) ∈ ([0, 1, 2] : List (Fin 4)) by decide)).trans ?_
    refine (congrArg (fun q => min q.toInt.toNat 768) ((congrArg ix (siIdx_at b i k 2)).trans c2)).trans ?_
    exact clamp_word _ _ _ hx (by omega) (by decide)
  refine congrArg ii (funext fun a => Fin.ext ?_)
  match a with
  | ⟨0, _⟩ => exact s0
  | ⟨1, _⟩ => exact s1
  | ⟨2, _⟩ => exact s2
  | ⟨3, _⟩ => exact Nat.zero_add _

theorem wrap_id (e c : BitVec 32) (h : e.toNat < 2 ^ 31) : Scalar.select (IntOp.cmpi .slt e 0#32) c e = e := by
  rw [WordCmp.cmpi_slt_zero, decide_eq_false (by omega)]; rfl

theorem colE_at (e : IVec S8x512 32) (b : Fin 8) (i : Fin 512) (h : (e (ix2 b i)).toNat ≤ 768) :
    colE e (ix3 b i 0) = e (ix2 b i) := by
  unfold colE wrapE
  pointwise
  exact wrap_id _ _ (by omega)

theorem colB_at (b : Fin 8) (i : Fin 512) : colB imgR (ix3 b i 0) = BitVec.ofNat 32 b.val := by
  unfold colB wrapB imgR
  pointwise
  exact wrap_id _ _ (by rw [BitVec.toNat_ofNat]; omega)

theorem x0R_at (a4 : IVec S8x512x4 32)  (b : Fin 8) (i : Fin 512) : x0R a4 (ix2 b i) = a4 (ix3 b i 0) := by
  unfold x0R
  pointwise
theorem y0R_at (a4 : IVec S8x512x4 32)  (b : Fin 8) (i : Fin 512) : y0R a4 (ix2 b i) = a4 (ix3 b i 1) := by
  unfold y0R
  pointwise
theorem x1R_at (a4 : IVec S8x512x4 32)  (b : Fin 8) (i : Fin 512) : x1R a4 (ix2 b i) = a4 (ix3 b i 2) := by
  unfold x1R
  pointwise
theorem y1R_at (a4 : IVec S8x512x4 32)  (b : Fin 8) (i : Fin 512) : y1R a4 (ix2 b i) = a4 (ix3 b i 3) := by
  unfold y1R
  pointwise
theorem farR_at (e s : IVec S8x512 32) (b : Fin 8) (i : Fin 512) : farR e s (ix2 b i) = farW (e (ix2 b i)) (s (ix2 b i)) := by
  unfold farR farW
  pointwise

/-- The majority class of a box is the first class of the greatest count. -/
theorem boxMajR_at (a1 : FVec Ideal S8x5x768x768 .f32) (a4 : IVec S8x512x4 32) (b : Fin 8) (i : Fin 512)
    (h : Box (a4 (ix3 b i 0)) (a4 (ix3 b i 1)) (a4 (ix3 b i 2)) (a4 (ix3 b i 3))) :
    boxMajR a1 a4 (ix2 b i) = BitVec.ofNat 32 (am fun k => nE (cnt (fun y x => am fun k => a1 (ix4 b k y x))
      (a4 (ix3 b i 1)).toNat (far (a4 (ix3 b i 3)) (a4 (ix3 b i 1))) (a4 (ix3 b i 0)).toNat
      (far (a4 (ix3 b i 2)) (a4 (ix3 b i 0))) k.val)) := by
  unfold boxMajR
  rw [majR_at]
  refine congrArg (fun f => BitVec.ofNat 32 (am f)) (funext fun k => ?_)
  unfold countR
  pointwise
  have hy0 := h.hy0
  have hx0 := h.hx0
  have fy := far_le _ _ h.hy0 h.hy1
  have fx := far_le _ _ h.hx0 h.hx1
  have ey : farR (y1R a4) (y0R a4) (ix2 b i) = farW (a4 (ix3 b i 3)) (a4 (ix3 b i 1)) := by rw [farR_at, y1R_at, y0R_at]
  have ex : farR (x1R a4) (x0R a4) (ix2 b i) = farW (a4 (ix3 b i 2)) (a4 (ix3 b i 0)) := by rw [farR_at, x1R_at, x0R_at]
  have hB : (colB imgR (ix3 b i 0)).toNat = b.val := by rw [colB_at, BitVec.toNat_ofNat]; omega
  have hYf : (colE (farR (y1R a4) (y0R a4)) (ix3 b i 0)).toNat = (⟨far (a4 (ix3 b i 3)) (a4 (ix3 b i 1)), by omega⟩ : Fin 769).val := by
    rw [colE_at _ _ _ (by rw [ey, farW_toNat _ _ h.hy1]; exact fy), ey, farW_toNat _ _ h.hy1]
  have hXf : (colE (farR (x1R a4) (x0R a4)) (ix3 b i 0)).toNat = (⟨far (a4 (ix3 b i 2)) (a4 (ix3 b i 0)), by omega⟩ : Fin 769).val := by
    rw [colE_at _ _ _ (by rw [ex, farW_toNat _ _ h.hx1]; exact fx), ex, farW_toNat _ _ h.hx1]
  have hY0 : (colE (y0R a4) (ix3 b i 0)).toNat = (⟨(a4 (ix3 b i 1)).toNat, by omega⟩ : Fin 769).val := by
    rw [colE_at _ _ _ (by rw [y0R_at]; omega), y0R_at]
  have hX0 : (colE (x0R a4) (ix3 b i 0)).toNat = (⟨(a4 (ix3 b i 0)).toNat, by omega⟩ : Fin 769).val := by
    rw [colE_at _ _ _ (by rw [x0R_at]; omega), x0R_at]
  rw [cornerR_at _ _ _ _ b i k b _ _ hB hYf hXf, cornerR_at _ _ _ _ b i k b _ _ hB hY0 hXf,
    cornerR_at _ _ _ _ b i k b _ _ hB hYf hX0, cornerR_at _ _ _ _ b i k b _ _ hB hY0 hX0]
  have im := fun Y X => image_at (labR a1) (fun b y x => am fun k => a1 (ix4 b k y x)) (fun _ _ _ => am_lt _) (labR_at a1) b Y X k
  rw [im, im, im, im]
  exact nE_corners _ _ _ _ _ (corners _ _ _ _ _ _ (lt_far _ _ h.hy).le (lt_far _ _ h.hx).le)

end Cert.ReferenceIdeal.Run
-- ==== Proof.RefNll.lean ====
module

public import proofs.«01_k».proof.Proof.RefVal
public import proofs.«01_k».proof.Proof.Words
public import proofs.«01_k».proof.Proof.RefCount
public import Idealize.ShloMosaic.Lib.Pointwise

/-! The reference's loss at an index. -/

@[expose] public section

set_option maxRecDepth 65536

noncomputable section

namespace Cert.ReferenceIdeal.Run

open Idealize.ShloMosaic
open Cert.ReferenceIdeal Cert.ReferenceIdeal.Facts₀ Cert.ReferenceIdeal.Facts Cert.Num

theorem logitsR_at (a0 : FVec Ideal S8x512x512 .f32) (a2 : FVec Ideal S5x512 .f32) (a3 : FVec Ideal S5 .f32) (b : Fin 8)
    (i : Fin 512) (k : Fin 5) :
    (logitsR a0 a2 a3 (ix3 b i k) : EReal) = (∑ d : Fin 512, a0 (ix3 b i d) * a2 (ix2 k d)) + a3 (ix1 k) := by
  unfold logitsR
  pointwise

theorem shiftR_at (l : FVec Ideal S8x512x5 .f32) (b : Fin 8) (i : Fin 512) (k : Fin 5) :
    (shiftR l (ix3 b i k) : EReal) = l (ix3 b i k) - Finset.univ.fold max ⊥ fun k : Fin 5 => (l (ix3 b i k) : EReal) := by
  unfold shiftR
  pointwise
  rw [f32_bot, max_eq_right bot_le]

theorem lsmR_at (l : FVec Ideal S8x512x5 .f32) (b : Fin 8) (i : Fin 512) (k : Fin 5) :
    (lsmR l (ix3 b i k) : EReal) = shiftR l (ix3 b i k) - Ideal.log (∑ k : Fin 5, Ideal.exp (shiftR l (ix3 b i k))) := by
  unfold lsmR
  pointwise

theorem pickR_at (maj : IVec S8x512 32) (b : Fin 8) (i : Fin 512) (h : (maj (ix2 b i)).toNat < 5) :
    pickR maj (ix4 b i 0 0) = maj (ix2 b i) := by
  unfold pickR
  pointwise
  exact wrap_id _ _ (by omega)

theorem insideR_at (p : IVec S8x512x1x1 32) (b : Fin 8) (i : Fin 512) (h : (p (ix4 b i 0 0)).toNat < 5) :
    insideR p (ix3 b i 0) = 1#1 := by
  unfold insideR
  pointwise
  have e : ∀ w : BitVec 32, w.toNat < 5 →
      IntOp.andi (IntOp.cmpi .sge w 0#32) (IntOp.cmpi .sle w 4#32) = 1#1 := by
    intro w hw
    obtain ⟨n, hn, rfl⟩ : ∃ n, n < 5 ∧ w = BitVec.ofNat 32 n := ⟨w.toNat, hw, by rw [BitVec.ofNat_toNat, BitVec.setWidth_eq]⟩
    interval_cases n <;> decide
  rw [Finset.univ_unique, Finset.fold_singleton]
  exact (congrArg (fun q => IntOp.andi q 1#1) (e _ h)).trans (by decide)

theorem gathered_at (l : FVec Ideal S8x512x5 .f32) (p : IVec S8x512x1x1 32) (b : Fin 8) (i : Fin 512) (n : Fin 5)
    (h : (p (ix4 b i 0 0)).toNat = n.val) :
    (Host.gather gather_S8x512x5_S8x512x1x1_S8x512x1_n_2_01_01_2_3_111 l p (ix3 b i 0) : EReal) = l (ix3 b i n) := by
  unfold Host.gather
  have si : gather_S8x512x5_S8x512x1x1_S8x512x1_n_2_01_01_2_3_111.siIdx (ix3 b i 0) (0 : Fin 1) = ix4 b i 0 0 := by
    funext a
    match a with
    | ⟨0, _⟩ => rfl
    | ⟨1, _⟩ => rfl
    | ⟨2, _⟩ => rfl
    | ⟨3, _⟩ => rfl
  have s2 : gather_S8x512x5_S8x512x1x1_S8x512x1_n_2_01_01_2_3_111.start (ix3 b i 0) p (2 : Fin 3) = n.val := by
    unfold GatherDims.start
    refine (dif_pos (show (2 : Fin 3) ∈ ([2] : List (Fin 3)) by decide)).trans ?_
    refine (congrArg (fun q => min q.toInt.toNat 4) (congrArg p si)).trans ?_
    exact clamp_word _ _ _ h (by omega) (by decide)
  refine congrArg l (funext fun a => Fin.ext ?_)
  match a with
  | ⟨0, _⟩ => exact Nat.zero_add _
  | ⟨1, _⟩ => exact Nat.zero_add _
  | ⟨2, _⟩ => exact s2

/-- The loss at the majority class. -/
theorem nllR_at (l : FVec Ideal S8x512x5 .f32) (maj : IVec S8x512 32) (b : Fin 8) (i : Fin 512) (n : Fin 5)
    (h : (maj (ix2 b i)).toNat = n.val) : (nllR l maj (ix2 b i) : EReal) = -(l (ix3 b i n) : EReal) := by
  have hp := pickR_at maj b i (by omega)
  unfold nllR
  pointwise
  rw [insideR_at _ b i (by rw [hp]; omega), gathered_at l _ b i n (by rw [hp]; exact h)]
  rfl

theorem maskR_at (a5 : IVec S8x512 32) (b : Fin 8) (i : Fin 512) (h : a5 (ix2 b i) = 0#32 ∨ a5 (ix2 b i) = 1#32) :
    (maskR a5 (ix2 b i) : EReal) = (((a5 (ix2 b i)).toInt : ℝ) : EReal) := by
  unfold maskR
  pointwise
  rcases h with h | h <;> rw [h]
  · show ((((IntOp.cmpi .eq (0#32) (1#32)).toNat : ℕ) : ℝ) : EReal) = _
    rw [show IntOp.cmpi .eq (0#32) (1#32) = 0#1 by decide]; simp
  · show ((((IntOp.cmpi .eq (1#32) (1#32)).toNat : ℕ) : ℝ) : EReal) = _
    rw [show IntOp.cmpi .eq (1#32) (1#32) = 1#1 by decide]; simp

theorem meanR_at (l : FVec Ideal S8x512 .f32) (a5 : IVec S8x512 32) (j : S_.Idx) :
    (meanR l a5 j : EReal) = Ideal.div (∑ b : Fin 8, ∑ i : Fin 512, l (ix2 b i) * maskR a5 (ix2 b i)) (∑ b : Fin 8, ∑ i : Fin 512, maskR a5 (ix2 b i)) := by
  unfold meanR
  pointwise

end Cert.ReferenceIdeal.Run
-- ==== Proof.Pre.lean ====
module

public import proofs.«01_k».proof.Pre_drawn
public import proofs.«01_k».proof.Proof.Words
public import Idealize.ShloMosaic.Lib.Pointwise
public import Idealize.ShloMosaic.Lib.WordCmp
public import Idealize.ShloMosaic.Lib.Decide

/-! What the precondition says of the arguments, index by index. -/

@[expose] public section

set_option maxRecDepth 16384

noncomputable section

namespace Cert.Pre_drawn

open Idealize.ShloMosaic
open Cert.Pre_drawn.Facts Cert.Num

theorem and_one (x y : BitVec 1) (h : IntOp.andi x y = 1#1) : x = 1#1 ∧ y = 1#1 := by
  revert x y; decide

theorem or_one (x y : BitVec 1) (h : IntOp.ori x y = 1#1) : x = 1#1 ∨ y = 1#1 := by
  revert x y; decide

theorem ofBool_one {p : Prop} [Decidable p] (h : BitVec.ofBool (decide p) = 1#1) : p := by
  by_contra hp
  rw [decide_eq_false hp] at h
  exact absurd h (by decide)

theorem fold_one {ι : Type} (s : Finset ι) (f : ι → BitVec 1) :
    Finset.fold IntOp.andi (1#1) f s = 1#1 → ∀ k ∈ s, f k = 1#1 := by
  classical
  induction s using Finset.induction_on with
  | empty => intro _ k hk; exact absurd hk (Finset.notMem_empty k)
  | insert a s ha ih =>
    rw [Finset.fold_insert ha]
    intro h k hk
    obtain ⟨h1, h2⟩ := and_one _ _ h
    rcases Finset.mem_insert.mp hk with rfl | hk
    · exact h1
    · exact ih h2 k hk

theorem f32_top : Ideal.ofBits .f32 2139095040#32 = ⊤ := by
  simp [Ideal.ofBits, Ideal.ieee]

/-- A number whose absolute value is below infinity is real. -/
theorem real_of (x : Ideal .f32)
    (h : BitVec.ofBool (decide ((FloatOps.absf x : EReal) < Ideal.ofBits FTy.f32 2139095040#32)) = 1#1) :
    ∃ r : ℝ, (x : EReal) = (r : EReal) := by
  have h := ofBool_one h
  rw [f32_top] at h
  have h : max (x : EReal) (-(x : EReal)) < ⊤ := h
  have h1 : (x : EReal) ≠ ⊤ := (lt_of_le_of_lt (le_max_left _ _) h).ne
  have h2 : (x : EReal) ≠ ⊥ := by
    intro e
    have := lt_of_le_of_lt (le_max_right (x : EReal) (-(x : EReal))) h
    rw [e, EReal.neg_bot] at this
    exact lt_irrefl _ this
  exact ⟨(x : EReal).toReal, (EReal.coe_toReal h1 h2).symm⟩

theorem max_word (a : BitVec 32) (h : a.toNat < 2 ^ 31) : (IntOp.maxsi a 1#32).toNat = max a.toNat 1 := by
  have e : a.toInt = (a.toNat : ℤ) := toInt_small a h
  have e1 : (1#32 : BitVec 32).toInt = 1 := by decide
  unfold IntOp.maxsi
  split_ifs with hs <;> rw [BitVec.slt_iff_toInt_lt, e, e1] at hs
  · omega
  · show 1 = _
    omega

/-- The box the four coordinates of the precondition name. -/
theorem box_of (x0 y0 x1 y1 : BitVec 32) (h0 : IntOp.cmpi .sge x0 0#32 = 1#1) (h1 : IntOp.cmpi .sle x0 x1 = 1#1)
    (h2 : IntOp.cmpi .slt x0 768#32 = 1#1) (h3 : IntOp.cmpi .sle x1 768#32 = 1#1)
    (h4 : IntOp.cmpi .sge y0 0#32 = 1#1) (h5 : IntOp.cmpi .sle y0 y1 = 1#1)
    (h6 : IntOp.cmpi .slt y0 768#32 = 1#1) (h7 : IntOp.cmpi .sle y1 768#32 = 1#1)
    (h8 : IntOp.cmpi .slt (IntOp.muli (IntOp.maxsi (IntOp.subi x1 x0) 1#32) (IntOp.maxsi (IntOp.subi y1 y0) 1#32)) 4096#32 = 1#1) :
    Box x0 y0 x1 y1 := by
  have z : (0#32 : BitVec 32).toInt = 0 := by decide
  have z' : (768#32 : BitVec 32).toInt = 768 := by decide
  have one : ∀ s e : BitVec 32, (0#32 : BitVec 32).toInt ≤ s.toInt → s.toInt ≤ e.toInt → s.toInt < (768#32 : BitVec 32).toInt →
      e.toInt ≤ (768#32 : BitVec 32).toInt → s.toNat < 768 ∧ s.toNat ≤ e.toNat ∧ e.toNat ≤ 768 := by
    intro s e a b c d
    rw [z] at a
    rw [z'] at c d
    rw [BitVec.toInt_eq_toNat_cond] at a b c
    rw [BitVec.toInt_eq_toNat_cond] at b d
    have := s.isLt
    have := e.isLt
    split_ifs at a b c d <;> omega
  obtain ⟨a0, a1, a2⟩ := one x0 x1 (ofBool_one h0) (ofBool_one h1) (ofBool_one h2) (ofBool_one h3)
  obtain ⟨b0, b1, b2⟩ := one y0 y1 (ofBool_one h4) (ofBool_one h5) (ofBool_one h6) (ofBool_one h7)
  refine ⟨a0, a1, a2, b0, b1, b2, ?_⟩
  have side : ∀ s e : BitVec 32, s.toNat ≤ e.toNat → e.toNat ≤ 768 →
      (IntOp.maxsi (IntOp.subi e s) 1#32).toNat = far e s - s.toNat ∧ far e s - s.toNat ≤ 768 := by
    intro s e h h'
    have d : (IntOp.subi e s).toNat = e.toNat - s.toNat := by
      show (e - s).toNat = _
      rw [BitVec.toNat_sub]; omega
    rw [max_word _ (by omega), d]
    unfold far
    split_ifs with q
    · subst q; omega
    · have : s.toNat ≠ e.toNat := fun w => q (BitVec.eq_of_toNat_eq w.symm)
      omega
  obtain ⟨p1, q1⟩ := side x0 x1 a1 a2
  obtain ⟨p2, q2⟩ := side y0 y1 b1 b2
  have hm : (far x1 x0 - x0.toNat) * (far y1 y0 - y0.toNat) ≤ 768 * 768 := Nat.mul_le_mul q1 q2
  have e : (IntOp.muli (IntOp.maxsi (IntOp.subi x1 x0) 1#32) (IntOp.maxsi (IntOp.subi y1 y0) 1#32)).toNat
      = (far x1 x0 - x0.toNat) * (far y1 y0 - y0.toNat) := by
    show (IntOp.maxsi (IntOp.subi x1 x0) 1#32 * IntOp.maxsi (IntOp.subi y1 y0) 1#32).toNat = _
    rw [BitVec.toNat_mul, p1, p2, Nat.mod_eq_of_lt (by omega)]
  have h8 := ofBool_one h8
  rw [toInt_small _ (by omega), e, show (4096#32 : BitVec 32).toInt = 4096 by decide] at h8
  rw [mul_comm]
  exact_mod_cast h8

/-- The side conditions of the precondition's operations. -/
theorem facts : Facts where
  slices_S8x512x4_S8x512x1_0_0_0 := by decide
  shapeCasts_S8x512x1_S8x512 := by decide
  slices_S8x512x4_S8x512x1_0_0_1 := by decide
  slices_S8x512x4_S8x512x1_0_0_2 := by decide
  slices_S8x512x4_S8x512x1_0_0_3 := by decide
  bcast_S_S8x512 := by decide
  bcast_S_S8x512x512 := by decide
  reducesTo_S8x512x512_S8x512_d2 := by decide
  h_S_ := by decide
  bcast_S_S5x512 := by decide
  reducesTo_S5x512_S_d0_1 := by decide
  bcast_S_S5 := by decide
  reducesTo_S5_S_d0 := by decide

variable [Facts]

/-- Every weight is real. -/
def RealW (a2 : FVec Ideal S5x512 .f32) : Prop := ∀ (k : Fin 5) (d : Fin 512), ∃ r : ℝ, (a2 (ix2 k d) : EReal) = (r : EReal)

/-- Every bias is real. -/
def RealB (a3 : FVec Ideal S5 .f32) : Prop := ∀ k : Fin 5, ∃ r : ℝ, (a3 (ix1 k) : EReal) = (r : EReal)

/-- The precondition at one entry: its box, its mask bit, and every number the logits read real. -/
theorem fn_at (a0 : FVec Ideal S8x512x512 .f32) (a1 : FVec Ideal S8x5x768x768 .f32) (a2 : FVec Ideal S5x512 .f32)
    (a3 : FVec Ideal S5 .f32) (a4 : IVec S8x512x4 32) (a5 : IVec S8x512 32)
    (h : fn (F := Ideal) a0 a1 a2 a3 a4 a5 = fun _ => 1#1) (b : Fin 8) (i : Fin 512) :
    Box (a4 (ix3 b i 0)) (a4 (ix3 b i 1)) (a4 (ix3 b i 2)) (a4 (ix3 b i 3))
      ∧ (a5 (ix2 b i) = 0#32 ∨ a5 (ix2 b i) = 1#32)
      ∧ (∀ d : Fin 512, ∃ r : ℝ, (a0 (ix3 b i d) : EReal) = (r : EReal))
      ∧ RealW a2 ∧ RealB a3 := by
  have h := congrFun h (ix2 b i)
  unfold fn fn_part1 fn_part2 fn_part3 at h
  revert h
  pointwise
  intro h
  obtain ⟨h, hw⟩ := and_one _ _ h
  obtain ⟨hW, hB⟩ := and_one _ _ hw
  obtain ⟨h, hE⟩ := and_one _ _ h
  obtain ⟨h, hM⟩ := and_one _ _ h
  obtain ⟨h, h8⟩ := and_one _ _ h
  obtain ⟨h, h7⟩ := and_one _ _ h
  obtain ⟨h, h6⟩ := and_one _ _ h
  obtain ⟨h, h5⟩ := and_one _ _ h
  obtain ⟨h, h4⟩ := and_one _ _ h
  obtain ⟨h, h3⟩ := and_one _ _ h
  obtain ⟨h, h2⟩ := and_one _ _ h
  obtain ⟨h0, h1⟩ := and_one _ _ h
  refine ⟨box_of _ _ _ _ h0 h1 h2 h3 h4 h5 h6 h7 h8, ?_, ?_, ?_, ?_⟩
  · rcases or_one _ _ hM with h | h <;> rw [WordCmp.cmpi_eq_eq] at h
    · exact .inl (ofBool_one h)
    · exact .inr (ofBool_one h)
  · exact fun d => real_of _ (fold_one _ _ hE d (Finset.mem_univ _))
  · exact fun k d => real_of _ (fold_one _ _ hW (k, d) (Finset.mem_univ _))
  · exact fun k => real_of _ (fold_one _ _ hB k (Finset.mem_univ _))

end Cert.Pre_drawn
-- ==== Proof.Loss.lean ====
module

public import proofs.«01_k».proof.Proof.KerSum
public import proofs.«01_k».proof.Proof.RefNll
public import proofs.«01_k».proof.Proof.Pre

/-! The kernel's array and the reference's are one number. -/

@[expose] public section

set_option maxRecDepth 16384

noncomputable section

namespace Cert.Num

open Idealize.ShloMosaic

/-- The greatest of five real numbers is real. -/
theorem max_real (r : Fin 5 → ℝ) : ∃ M : ℝ, (Finset.univ.fold max ⊥ fun k : Fin 5 => ((r k : ℝ) : EReal)) = (M : EReal) := by
  have h1 : (Finset.univ.fold max ⊥ fun k : Fin 5 => ((r k : ℝ) : EReal)) ≠ ⊤ := by
    refine ne_of_lt ((Finset.fold_max_lt ⊤).mpr ⟨bot_lt_top, fun k _ => EReal.coe_lt_top _⟩)
  have h2 : (Finset.univ.fold max ⊥ fun k : Fin 5 => ((r k : ℝ) : EReal)) ≠ ⊥ := by
    refine ne_of_gt (lt_of_lt_of_le (EReal.bot_lt_coe (r 0)) ?_)
    exact (Finset.le_fold_max _).mpr (.inr ⟨0, Finset.mem_univ _, le_rfl⟩)
  exact ⟨_, (EReal.coe_toReal h1 h2).symm⟩

/-- The two spellings of the loss at a class: the log of the summed exponentials less the logit, and the
    negated log-softmax. -/
theorem loss_eq (r : Fin 5 → ℝ) (l : Fin 5 → EReal) (hl : ∀ k, l k = ((r k : ℝ) : EReal)) (n : Fin 5) :
    (Finset.univ.fold max ⊥ fun k : Fin 5 => l k)
        + Ideal.log (∑ k : Fin 5, Ideal.exp (l k - Finset.univ.fold max ⊥ fun k : Fin 5 => l k)) - (0 + l n)
      = -((l n - Finset.univ.fold max ⊥ fun k : Fin 5 => l k)
        - Ideal.log (∑ k : Fin 5, Ideal.exp (l k - Finset.univ.fold max ⊥ fun k : Fin 5 => l k))) := by
  obtain rfl : l = fun k => ((r k : ℝ) : EReal) := funext hl
  obtain ⟨M, hM⟩ := max_real r
  simp only [hM]
  have he : ∀ k : Fin 5, Ideal.exp (((r k : ℝ) : EReal) - (M : EReal)) = ((Real.exp (r k - M) : ℝ) : EReal) := by
    intro k; rw [← EReal.coe_sub]; rfl
  have hs : (∑ k : Fin 5, Ideal.exp (((r k : ℝ) : EReal) - (M : EReal))) = ((∑ k : Fin 5, Real.exp (r k - M) : ℝ) : EReal) := by
    simp only [he, Fin.sum_univ_five, EReal.coe_add]
  have hp : 0 < ∑ k : Fin 5, Real.exp (r k - M) := Finset.sum_pos (fun k _ => Real.exp_pos _) ⟨0, Finset.mem_univ _⟩
  have hg : Ideal.log ((∑ k : Fin 5, Real.exp (r k - M) : ℝ) : EReal) = ((Real.log (∑ k : Fin 5, Real.exp (r k - M)) : ℝ) : EReal) := by
    show (if _ then _ else _) = _
    exact if_neg (not_le.mpr hp)
  rw [hs, hg, zero_add, ← EReal.coe_add, ← EReal.coe_sub, ← EReal.coe_sub, ← EReal.coe_sub, ← EReal.coe_neg]
  congr 1
  ring

/-- A row of real numbers times real weights, plus a real bias, is real. -/
theorem dot_real {n : ℕ} (x w : Fin n → EReal) (c : EReal) (hx : ∀ d, ∃ r : ℝ, x d = (r : EReal))
    (hw : ∀ d, ∃ r : ℝ, w d = (r : EReal)) (hc : ∃ r : ℝ, c = (r : EReal)) :
    ∃ r : ℝ, (∑ d, x d * w d) + c = (r : EReal) := by
  choose rx hx using hx
  choose rw' hw using hw
  obtain ⟨rc, rfl⟩ := hc
  have hs : ∀ s : Finset (Fin n), ∃ r : ℝ, ∑ d ∈ s, x d * w d = (r : EReal) := by
    classical
    intro s
    induction s using Finset.induction_on with
    | empty => exact ⟨0, by simp⟩
    | insert a s ha ih =>
      obtain ⟨r, hr⟩ := ih
      exact ⟨rx a * rw' a + r, by rw [Finset.sum_insert ha, hr, hx, hw, ← EReal.coe_mul, ← EReal.coe_add]⟩
  obtain ⟨r, hr⟩ := hs Finset.univ
  exact ⟨r + rc, by rw [hr, ← EReal.coe_add]⟩

end Cert.Num

namespace Cert.KernelIdeal.Body

open Idealize.ShloMosaic Idealize.ShloMosaic.TcCoe Idealize.SL.Sem
open Cert.KernelIdeal Cert.KernelIdeal.Gen Cert.Num
open Cert.ReferenceIdeal.Run

variable (m : (ℓ : Loc nD τ sig) → Buf (Elt Ideal) ℓ) (c : Dev nD)

/-- The reference's loss at an entry, of the kernel's arguments. -/
def lossR (b : Fin 8) (i : Fin 512) : EReal :=
  nllR (lsmR (logitsR (m ((c : Thread nD τ).loc main_arg0)) (m ((c : Thread nD τ).loc main_arg2)) (m ((c : Thread nD τ).loc main_arg3))))
    (boxMajR (m ((c : Thread nD τ).loc main_arg1)) (m ((c : Thread nD τ).loc main_arg4))) (ix2 b i)

/-- The mask at an entry as a number. -/
def maskK (b : Fin 8) (i : Fin 512) : EReal := ((((m ((c : Thread nD τ).loc main_arg5) (ix2 b i) : BitVec 32)).toInt : ℝ) : EReal)

/-- The precondition, index by index. -/
def PreAt : Prop := ∀ (b : Fin 8) (i : Fin 512),
    Box (m ((c : Thread nD τ).loc main_arg4) (ix3 b i 0)) (m ((c : Thread nD τ).loc main_arg4) (ix3 b i 1))
        (m ((c : Thread nD τ).loc main_arg4) (ix3 b i 2)) (m ((c : Thread nD τ).loc main_arg4) (ix3 b i 3))
      ∧ (m ((c : Thread nD τ).loc main_arg5) (ix2 b i) = 0#32 ∨ m ((c : Thread nD τ).loc main_arg5) (ix2 b i) = 1#32)
      ∧ (∀ d : Fin 512, ∃ r : ℝ, (m ((c : Thread nD τ).loc main_arg0) (ix3 b i d) : EReal) = (r : EReal))
      ∧ Pre_drawn.RealW (m ((c : Thread nD τ).loc main_arg2)) ∧ Pre_drawn.RealB (m ((c : Thread nD τ).loc main_arg3))

/-- One entry's loss, of a block that holds one image of the arrays: the kernel's is the reference's. -/
theorem nll_of (x0 : Vec Ideal S1x5x768x768 .f32) (x1 : Vec Ideal S1x512x512 .f32) (x2 : Vec Ideal S5x512 .f32)
    (x3 : Vec Ideal S5 .f32) (x4 : Vec Ideal S1x512x4 .i32)
    (a0 : FVec Ideal S8x512x512 .f32) (a1 : FVec Ideal S8x5x768x768 .f32) (a2 : FVec Ideal S5x512 .f32)
    (a3 : FVec Ideal S5 .f32) (a4 : IVec S8x512x4 32) (b : Fin 8) (i : Fin 512)
    (e0 : ∀ k y x, x0 (ix4 0 k y x) = a1 (ix4 b k y x)) (e1 : ∀ d, x1 (ix3 0 i d) = a0 (ix3 b i d))
    (e2 : ∀ k d, x2 (ix2 k d) = a2 (ix2 k d)) (e3 : ∀ k, x3 (ix1 k) = a3 (ix1 k)) (e4 : ∀ d, x4 (ix3 0 i d) = a4 (ix3 b i d))
    (hBox : Box (a4 (ix3 b i 0)) (a4 (ix3 b i 1)) (a4 (ix3 b i 2)) (a4 (ix3 b i 3)))
    (h0 : ∀ d : Fin 512, ∃ r : ℝ, (a0 (ix3 b i d) : EReal) = (r : EReal))
    (h2 : Pre_drawn.RealW a2) (h3 : Pre_drawn.RealB a3) :
    (nllOf x0 x1 x2 x3 x4 (ix2 i 0) : EReal) = nllR (lsmR (logitsR a0 a2 a3)) (boxMajR a1 a4) (ix2 b i) := by
  have hmaj : ∃ n, n < 5 ∧ majOf (labOf x0) x4 (ix2 i 0) = nE n ∧ boxMajR a1 a4 (ix2 b i) = BitVec.ofNat 32 n := by
    refine ⟨_, am_lt _, ?_, boxMajR_at a1 a4 b i hBox⟩
    have hlab : ∀ y x : Fin 768, (labOf x0 (ix2 y x) : EReal) = nE (am fun k => a1 (ix4 b k y x)) := by
      intro y x
      rw [labOf_at]
      exact congrArg (fun f => nE (am f)) (funext fun k => e0 k y x)
    have h := majOf_at (fun y x => am fun k => a1 (ix4 b k y x)) (fun _ _ => am_lt _) (labOf x0) hlab x4 i
      (by rw [e4, e4, e4, e4]; exact hBox)
    unfold bcnt at h
    rw [e4, e4, e4, e4] at h
    exact h
  obtain ⟨n, hn, hK, hR⟩ := hmaj
  have hl : ∀ k : Fin 5, (logitsOf x1 x2 x3 (ix2 i k) : EReal) = logitsR a0 a2 a3 (ix3 b i k) := by
    intro k
    rw [logits_at, logitsR_at, e3]
    refine congrArg (· + _) (Finset.sum_congr rfl fun d _ => ?_)
    rw [e1, e2]
  have hr : ∀ k : Fin 5, ∃ r : ℝ, (logitsR a0 a2 a3 (ix3 b i k) : EReal) = (r : EReal) := by
    intro k
    rw [logitsR_at]
    exact dot_real _ _ _ h0 (h2 k) (h3 k)
  have hm : (boxMajR a1 a4 (ix2 b i)).toNat = (⟨n, hn⟩ : Fin 5).val := by
    rw [hR, BitVec.toNat_ofNat]
    exact Nat.mod_eq_of_lt (lt_trans hn (by decide))
  rw [nll_at x0 x1 x2 x3 x4 i n hn hK, lse_at, nllR_at _ _ b i ⟨n, hn⟩ hm, lsmR_at]
  simp only [shiftR_at, hl]
  choose r hr using hr
  exact loss_eq r (fun k => logitsR a0 a2 a3 (ix3 b i k)) hr ⟨n, hn⟩

/-- One entry's loss at a grid point: the kernel's is the reference's. -/
theorem nll_eq (hP : PreAt m c) (t : Fin cfg0.N) (b : Fin 8) (hb : t.val = b.val) (i : Fin 512) :
    (nllOf (iblk m c 0 t) (iblk m c 1 t) (iblk m c 2 t) (iblk m c 3 t) (iblk m c 4 t) (ix2 i 0) : EReal) = lossR m c b i := by
  obtain ⟨hBox, -, h0, h2, h3⟩ := hP b i
  exact nll_of _ _ _ _ _ _ _ _ _ _ b i (blk0 m c t b hb) (blk1 m c t b hb i) (blk2 m c t) (blk3 m c t) (blk4 m c t b hb i)
    hBox h0 h2 h3

/-- One image's share of the loss sum. -/
def numT (n : ℕ) : EReal := if h : n < 8 then ∑ i : Fin 512, lossR m c ⟨n, h⟩ i * maskK m c ⟨n, h⟩ i else 0

/-- One image's share of the mask sum. -/
def denT (n : ℕ) : EReal := if h : n < 8 then ∑ i : Fin 512, maskK m c ⟨n, h⟩ i else 0

theorem num_step (hP : PreAt m c) (n : ℕ) (h : n < cfg0.N) (z : Vec Ideal S1x1 .f32) :
    (numStep (grid0.coords ⟨n, h⟩) (iblk m c 0 ⟨n, h⟩) (iblk m c 1 ⟨n, h⟩) (iblk m c 2 ⟨n, h⟩) (iblk m c 3 ⟨n, h⟩)
      (iblk m c 4 ⟨n, h⟩) (iblk m c 5 ⟨n, h⟩) z (ix2 0 0) : EReal) = z (ix2 0 0) + numT m c n := by
  have h8 : n < 8 := lt_of_lt_of_eq h N_0
  unfold numStep numT
  rw [pay4_at, dif_pos h8]
  refine congrArg (_ + ·) (Finset.sum_congr rfl fun i _ => ?_)
  rw [row5 m c ⟨n, h⟩ ⟨n, h8⟩ rfl, nll_eq m c hP ⟨n, h⟩ ⟨n, h8⟩ rfl]
  exact mul_comm _ _

theorem den_step (n : ℕ) (h : n < cfg0.N) (z : Vec Ideal S1x1 .f32) :
    (denStep (grid0.coords ⟨n, h⟩) (iblk m c 5 ⟨n, h⟩) z (ix2 0 0) : EReal) = z (ix2 0 0) + denT m c n := by
  have h8 : n < 8 := lt_of_lt_of_eq h N_0
  unfold denStep denT
  rw [pay5_at, dif_pos h8]
  refine congrArg (_ + ·) (Finset.sum_congr rfl fun i _ => ?_)
  rw [row5 m c ⟨n, h⟩ ⟨n, h8⟩ rfl]
  rfl

theorem numAt_sum (hP : PreAt m c) : ∀ (n : ℕ) (h : n < cfg0.N),
    (numAt m c n h (ix2 0 0) : EReal) = ∑ b ∈ Finset.range (n + 1), numT m c b
  | 0, h => by
    unfold numAt
    rw [num_step m c hP, pay2_at, zero_add, Finset.sum_range_one]
  | n + 1, h => by
    unfold numAt
    rw [num_step m c hP, numAt_sum hP n, Finset.sum_range_succ _ (n + 1)]

theorem denAt_sum : ∀ (n : ℕ) (h : n < cfg0.N),
    (denAt m c n h (ix2 0 0) : EReal) = ∑ b ∈ Finset.range (n + 1), denT m c b
  | 0, h => by
    unfold denAt
    rw [den_step, pay3_at, zero_add, Finset.sum_range_one]
  | n + 1, h => by
    unfold denAt
    rw [den_step, denAt_sum n, Finset.sum_range_succ _ (n + 1)]

/-- The kernel's result is the reference's. -/
theorem outK_eq (hP : PreAt m c) : outK m c = valR (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  funext j
  unfold valR
  have hd : ∀ b i, (maskR (m ((c : Thread nD τ).loc main_arg5)) (ix2 b i) : EReal) = maskK m c b i :=
    fun b i => maskR_at _ b i (hP b i).2.1
  refine Eq.trans ?_ (meanR_at _ _ j).symm
  simp only [hd]
  have hk : (outK m c j : EReal) = k0_pay6 (numAt m c 7 lt7) (denAt m c 7 lt7) (ix3 0 0 0) := by
    unfold outK
    pointwise
  refine hk.trans ?_
  rw [pay6_at, numAt_sum m c hP, denAt_sum, ← Fin.sum_univ_eq_sum_range, ← Fin.sum_univ_eq_sum_range]
  refine congrArg₂ Ideal.div (Finset.sum_congr rfl fun b _ => ?_) (Finset.sum_congr rfl fun b _ => ?_)
  · unfold numT
    rw [dif_pos b.isLt]
    rfl
  · unfold denT
    rw [dif_pos b.isLt]

end Cert.KernelIdeal.Body
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Loss
public import proofs.«01_k».proof.Proof.Pre
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem Idealize.ShloMosaic.StableHlo

/-- What the reference leaves in its result and its arguments. -/
theorem ref_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread Cert.ReferenceIdeal.nD Cert.ReferenceIdeal.τ).loc Cert.ReferenceIdeal.main_v126)
          = Cert.ReferenceIdeal.Run.valR
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) :=
  (θ_run _ _ _).mono (fun _ h c =>
    ⟨(h c _).trans (Cert.ReferenceIdeal.Run.result_val _), (h c _).trans (Cert.ReferenceIdeal.Run.arg0_kept _),
      (h c _).trans (Cert.ReferenceIdeal.Run.arg1_kept _), (h c _).trans (Cert.ReferenceIdeal.Run.arg2_kept _),
      (h c _).trans (Cert.ReferenceIdeal.Run.arg3_kept _), (h c _).trans (Cert.ReferenceIdeal.Run.arg4_kept _),
      (h c _).trans (Cert.ReferenceIdeal.Run.arg5_kept _)⟩) (Cert.ReferenceIdeal.Run.run m g)

/-- The reference's frame; it declares no semaphore. -/
theorem ref_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (ref_run m g)

/-- The side conditions of the precondition's operations. -/
instance : Cert.Pre_drawn.Facts := Cert.Pre_drawn.facts

/-- The value claim. -/
theorem alg : Cert.algebraic_KernelIdeal_ReferenceIdeal_pre_drawn (hKernelIdeal := Cert.KernelIdeal.Gen.facts)
    (hReferenceIdeal := Cert.ReferenceIdeal.Gen.facts) (hPre_drawn := Cert.Pre_drawn.facts) := by
  intro m g m' g' hpre hagree
  refine ⟨fun c => Cert.KernelIdeal.Body.outK m c, ?_, ?_⟩
  · exact (θ_run _ _ _).mono (fun _ h c => ⟨h.1 c, h.2.1 c⟩) (θ_run_and (Cert.KernelIdeal.Body.run m g) (Cert.KernelIdeal.Gen.frame (F := Ideal) m g))
  · refine (θ_run _ _ _).mono (fun _ h c => ⟨(h c).1.trans ?_, (h c).2⟩) (ref_run m' g')
    obtain ⟨e0, e1, e2, e3, e4, e5⟩ := hagree c
    rw [e0, e1, e2, e3, e4, e5]
    exact (Cert.KernelIdeal.Body.outK_eq m c fun b i =>
      @Cert.Pre_drawn.fn_at Cert.Pre_drawn.facts _ _ _ _ _ _ (hpre c) b i).symm

theorem claim : Cert.Claim :=
  ⟨Cert.Kernel.Gen.facts, Cert.KernelIdeal.Gen.facts, Cert.ReferenceIdeal.Gen.facts, Cert.Pre_drawn.facts,
    fun m ρ _ => Cert.Kernel.Gen.frame m ρ, fun m ρ _ => Cert.KernelIdeal.Gen.frame m ρ,
    fun m ρ _ => Cert.KernelIdeal.Gen.frame m ρ, ref_frame, fun m ρ _ => ref_frame m ρ trivial, trivial, alg⟩

end Cert.Proof

end
